-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Rows [hPre_in_range : Cert.Pre_in_range.Facts] (m : (ℓ : Loc Cert.Rows.nD Cert.Rows.τ Cert.Rows.sig) → Buf (Elt Bits) ℓ) : Prop :=
  ∀ c : Dev Cert.Rows.nD,
    (Cert.Pre_in_range.fn (F := Bits) (m ((c.tc : Thread Cert.Rows.nD Cert.Rows.τ).loc Cert.Rows.main_arg0)) (m ((c.tc : Thread Cert.Rows.nD Cert.Rows.τ).loc Cert.Rows.main_arg1))) = (fun _ => 1#1)

def Pre_RowsIdeal [hPre_in_range : Cert.Pre_in_range.Facts] (m : (ℓ : Loc Cert.RowsIdeal.nD Cert.RowsIdeal.τ Cert.RowsIdeal.sig) → Buf (Elt Ideal) ℓ) : Prop :=
  ∀ c : Dev Cert.RowsIdeal.nD,
    (Cert.Pre_in_range.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_range [hPre_in_range : Cert.Pre_in_range.Facts] (m : (ℓ : Loc Cert.TakeIdeal.nD Cert.TakeIdeal.τ Cert.TakeIdeal.sig) → Buf (Elt Ideal) ℓ) : Prop :=
  ∀ c : Dev Cert.TakeIdeal.nD,
    (Cert.Pre_in_range.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))) = (fun _ => 1#1)

def Pre_Take [hPre_in_range : Cert.Pre_in_range.Facts] (m : (ℓ : Loc Cert.Take.nD Cert.Take.τ Cert.Take.sig) → Buf (Elt Bits) ℓ) : Prop :=
  ∀ c : Dev Cert.Take.nD,
    (Cert.Pre_in_range.fn (F := Bits) (m ((c.tc : Thread Cert.Take.nD Cert.Take.τ).loc Cert.Take.main_arg0)) (m ((c.tc : Thread Cert.Take.nD Cert.Take.τ).loc Cert.Take.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Rows [hRows : Cert.Rows.Facts] [hPre_in_range : Cert.Pre_in_range.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] [hPre_in_range : Cert.Pre_in_range.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (Cert.RowsIdeal.threads (F := Ideal)) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_TakeIdeal_pre_in_range [hTakeIdeal : Cert.TakeIdeal.Facts] [hPre_in_range : Cert.Pre_in_range.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_range m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_Take [hTake : Cert.Take.Facts] [hPre_in_range : Cert.Pre_in_range.Facts] : Prop :=
  ∀ (m : (ℓ : Loc Cert.Take.nD Cert.Take.τ Cert.Take.sig) → Buf (Elt Bits) ℓ) (g : Dev Cert.Take.nD → PrngReg), Pre_Take m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def preserves_Kernel_KernelIdeal : Prop :=
  IdealRules.named_const.Statement Cert.KernelIdeal.κ "scale" .f32 0x35833333#32 ((550292685 / 562949953421312 : ℝ) : EReal)

def algebraic_KernelIdeal_ReferenceIdeal_on_found_pre_finite [hKernelIdeal : Cert.KernelIdeal.Facts] [hReferenceIdeal : Cert.ReferenceIdeal.Facts] [hPre_finite : Cert.Pre_finite.Facts] [hOn_found : Cert.On_found.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 1024, 64]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2) i = v0 c i)
          ∧ (∀ i : (⟨2, ![16, 1024]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v3) i = v1 c i)
          ∧ (∀ i : (⟨0, ![]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v4) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 1024, 64]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v30) i = v0 c i)
          ∧ (∀ i : (⟨2, ![16, 1024]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v17) i = v1 c i)
          ∧ (∀ i : (⟨0, ![]⟩ : Shape).Idx, (Cert.On_found.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v28) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Rows_RowsIdeal : Prop :=
  True

def algebraic_RowsIdeal_TakeIdeal [hRowsIdeal : Cert.RowsIdeal.Facts] [hTakeIdeal : Cert.TakeIdeal.Facts] [hPre_in_range : Cert.Pre_in_range.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.TakeIdeal.nD Cert.TakeIdeal.τ Cert.TakeIdeal.sig) → Buf (Elt Ideal) ℓ) (g' : Dev Cert.TakeIdeal.nD → PrngReg), Pre_RowsIdeal m →
    (∀ c : Dev Cert.RowsIdeal.nD,
      m' ((c.tc : Thread Cert.TakeIdeal.nD Cert.TakeIdeal.τ).loc Cert.TakeIdeal.main_arg0) = m ((c.tc : Thread Cert.RowsIdeal.nD Cert.RowsIdeal.τ).loc Cert.RowsIdeal.main_arg0)
      ∧ m' ((c.tc : Thread Cert.TakeIdeal.nD Cert.TakeIdeal.τ).loc Cert.TakeIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v3)),
      θ_run (Cert.RowsIdeal.defs (F := Ideal)) (Cert.RowsIdeal.threads (F := Ideal)) ⟨m, fun _ => 0, g⟩ (fun r => ∀ c : Dev Cert.RowsIdeal.nD,
          r.2.mem ((c.tc : Thread Cert.RowsIdeal.nD Cert.RowsIdeal.τ).loc Cert.RowsIdeal.main_v3) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v1) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1))

def bitexact_Rows_Take [hRows : Cert.Rows.Facts] [hTake : Cert.Take.Facts] [hPre_in_range : Cert.Pre_in_range.Facts] : Prop :=
  ∀ (m : (ℓ : Loc Cert.Rows.nD Cert.Rows.τ Cert.Rows.sig) → Buf (Elt Bits) ℓ) (g : Dev Cert.Rows.nD → PrngReg)
    (m' : (ℓ : Loc Cert.Take.nD Cert.Take.τ Cert.Take.sig) → Buf (Elt Bits) ℓ) (g' : Dev Cert.Take.nD → PrngReg), Pre_Rows m →
    (∀ c : Dev Cert.Rows.nD,
      m' ((c.tc : Thread Cert.Take.nD Cert.Take.τ).loc Cert.Take.main_arg0) = m ((c.tc : Thread Cert.Rows.nD Cert.Rows.τ).loc Cert.Rows.main_arg0)
      ∧ m' ((c.tc : Thread Cert.Take.nD Cert.Take.τ).loc Cert.Take.main_arg1) = m ((c.tc : Thread Cert.Rows.nD Cert.Rows.τ).loc Cert.Rows.main_arg1)) →
    ∃ (v0 : (c : Dev Cert.Rows.nD) → Buf (Elt Bits) ((c.tc : Thread Cert.Rows.nD Cert.Rows.τ).loc Cert.Rows.main_v3)),
      θ_run (Cert.Rows.defs (F := Bits)) (Cert.Rows.threads (F := Bits)) ⟨m, fun _ => 0, g⟩ (fun r => ∀ c : Dev Cert.Rows.nD,
          r.2.mem ((c.tc : Thread Cert.Rows.nD Cert.Rows.τ).loc Cert.Rows.main_v3) = v0 c
          ∧ r.2.mem ((c.tc : Thread Cert.Rows.nD Cert.Rows.τ).loc Cert.Rows.main_arg0) = m ((c.tc : Thread Cert.Rows.nD Cert.Rows.τ).loc Cert.Rows.main_arg0)
          ∧ r.2.mem ((c.tc : Thread Cert.Rows.nD Cert.Rows.τ).loc Cert.Rows.main_arg1) = m ((c.tc : Thread Cert.Rows.nD Cert.Rows.τ).loc Cert.Rows.main_arg1))
      ∧ θ_run (Cert.Take.defs (F := Bits)) (onTc (τ := Cert.Take.τ) (Cert.Take.main (F := Bits))) ⟨m', fun _ => 0, g'⟩ (fun r => ∀ c : Dev Cert.Take.nD,
          r.2.mem ((c.tc : Thread Cert.Take.nD Cert.Take.τ).loc Cert.Take.main_v1) = v0 c
          ∧ r.2.mem ((c.tc : Thread Cert.Take.nD Cert.Take.τ).loc Cert.Take.main_arg0) = m' ((c.tc : Thread Cert.Take.nD Cert.Take.τ).loc Cert.Take.main_arg0)
          ∧ r.2.mem ((c.tc : Thread Cert.Take.nD Cert.Take.τ).loc Cert.Take.main_arg1) = m' ((c.tc : Thread Cert.Take.nD Cert.Take.τ).loc Cert.Take.main_arg1))

def Claim : Prop :=
  ∃ (hKernel : Cert.Kernel.Facts) (hKernelIdeal : Cert.KernelIdeal.Facts) (hReferenceIdeal : Cert.ReferenceIdeal.Facts) (hRows : Cert.Rows.Facts) (hRowsIdeal : Cert.RowsIdeal.Facts) (hTakeIdeal : Cert.TakeIdeal.Facts) (hTake : Cert.Take.Facts) (hPre_finite : Cert.Pre_finite.Facts) (hPre_in_range : Cert.Pre_in_range.Facts) (hOn_found : Cert.On_found.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rows (hRows := hRows) (hPre_in_range := hPre_in_range)
    ∧ quiescent_RowsIdeal (hRowsIdeal := hRowsIdeal) (hPre_in_range := hPre_in_range)
    ∧ quiescent_TakeIdeal (hTakeIdeal := hTakeIdeal)
    ∧ quiescent_TakeIdeal_pre_in_range (hTakeIdeal := hTakeIdeal) (hPre_in_range := hPre_in_range)
    ∧ quiescent_Take (hTake := hTake) (hPre_in_range := hPre_in_range)
    ∧ preserves_Kernel_KernelIdeal
    ∧ algebraic_KernelIdeal_ReferenceIdeal_on_found_pre_finite (hKernelIdeal := hKernelIdeal) (hReferenceIdeal := hReferenceIdeal) (hPre_finite := hPre_finite) (hOn_found := hOn_found)
    ∧ preserves_Rows_RowsIdeal
    ∧ algebraic_RowsIdeal_TakeIdeal (hRowsIdeal := hRowsIdeal) (hTakeIdeal := hTakeIdeal) (hPre_in_range := hPre_in_range)
    ∧ bitexact_Rows_Take (hRows := hRows) (hTake := hTake) (hPre_in_range := hPre_in_range)
-- ==== On_found.lean ====
abbrev S16x1024x64 : Shape := ⟨3, ![16, 1024, 64]⟩
abbrev S1024x64 : Shape := ⟨2, ![1024, 64]⟩
abbrev S_ : Shape := ⟨0, ![]⟩
abbrev S16x1024 : Shape := ⟨2, ![16, 1024]⟩

class Facts : Prop where
  bcast_S_S16x1024x64 : S_.BroadcastsInDim S16x1024x64 (![] : Fin 0 → Fin S16x1024x64.rank)
  bcast_S_S16x1024 : S_.BroadcastsInDim S16x1024 (![] : Fin 0 → Fin S16x1024.rank)

variable [Facts]

def fn {F : FTy → Type} [FloatOps F] (main_arg0 : FVec F S16x1024x64 .f32) (main_arg1 : FVec F S1024x64 .f32) : IVec S16x1024x64 1 × IVec S16x1024 1 × IVec S_ 1 :=
  let main_c : IVec S_ 1 := constantI S_ 1 0#1
  let main_v0 : IVec S16x1024x64 1 := broadcastInDim S16x1024x64 ![] bcast_S_S16x1024x64 main_c
  let main_c_0 : IVec S_ 1 := constantI S_ 1 1#1
  let main_v1 : IVec S16x1024 1 := broadcastInDim S16x1024 ![] bcast_S_S16x1024 main_c_0
  let main_c_1 : IVec S_ 1 := constantI S_ 1 1#1
  (main_v0, main_v1, main_c_1)
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x64 .f32) (main_arg1 : FVec F S1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_in_range.lean ====
abbrev S1024x64 : Shape := ⟨2, ![1024, 64]⟩
abbrev S16x1024 : Shape := ⟨2, ![16, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel

variable [Facts]

def fn {F : FTy → Type} [FloatOps F] (main_arg0 : FVec F S1024x64 .f32) (main_arg1 : IVec S16x1024 32) : IVec S_ 1 :=
  let main_c : IVec S_ 32 := constantI S_ 32 0#32
  let main_v0 : IVec S16x1024 32 := broadcastInDim S16x1024 ![] bcast_S_S16x1024 main_c
  let main_v1 : IVec S16x1024 1 := cmpi .sge main_arg1 main_v0
  let main_c_0 : IVec S_ 32 := constantI S_ 32 1024#32
  let main_v2 : IVec S16x1024 32 := broadcastInDim S16x1024 ![] bcast_S_S16x1024 main_c_0
  let main_v3 : IVec S16x1024 1 := cmpi .slt main_arg1 main_v2
  let main_v4 : IVec S16x1024 1 := andi main_v1 main_v3
  let main_c_1 : IVec S_ 1 := constantI S_ 1 1#1
  let main_v5 : IVec S_ 1 := (fun x v => Host.reduce IntOp.andi x v reducesTo_S16x1024_S_d0_1 h_S_) main_v4 main_c_1
  main_v5
-- ==== Kernel.lean ====
abbrev S16x1024x64 : Shape := ⟨3, ![16, 1024, 64]⟩
abbrev S1024x64 : Shape := ⟨2, ![1024, 64]⟩
abbrev S16384x64 : Shape := ⟨2, ![16384, 64]⟩
abbrev S4x1x4096 : Shape := ⟨3, ![4, 1, 4096]⟩
abbrev S1x1 : Shape := ⟨2, ![1, 1]⟩
abbrev S4096x64 : Shape := ⟨2, ![4096, 64]⟩
abbrev S1x1x4096 : Shape := ⟨3, ![1, 1, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S4096x1024 : Shape := ⟨2, ![4096, 1024]⟩
abbrev S1 : Shape := ⟨1, ![1]⟩
abbrev S_ : Shape := ⟨0, ![]⟩
abbrev S16x1024 : Shape := ⟨2, ![16, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S4x1x4096, .i32⟩
  | .hbm, ⟨4, _⟩ => ⟨S1x1, .f32⟩
  | .hbm, ⟨5, _⟩ => ⟨S_, .f32⟩
  | .hbm, ⟨6, _⟩ => ⟨S16x1024x64, .f32⟩
  | .hbm, ⟨7, _⟩ => ⟨S16x1024, .i32⟩
  | .hbm, ⟨8, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S1x1x4096, .i32⟩
  | .local _ .vmem, ⟨4, _⟩ => ⟨S1x1x4096, .i32⟩
  | .local _ .vmem, ⟨5, _⟩ => ⟨S1x1, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "scale" => some ((550292685 / 562949953421312 : ℝ) : EReal)
  | _ => none
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S16384x1024 : Shape := ⟨2, ![16384, 1024]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1x1024, .f32⟩
  | .hbm, ⟨12, _⟩ => ⟨S64x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x1024, .i32⟩
  | .hbm, ⟨27, _⟩ => ⟨S_, .i32⟩
  | .hbm, ⟨28, _⟩ => ⟨S16x1024, .i32⟩
  | .hbm, ⟨29, _⟩ => ⟨S16x1024, .i1⟩
  | .hbm, ⟨30, _⟩ => ⟨S_, .i32⟩
  | .hbm, ⟨31, _⟩ => ⟨S16x1024, .i32⟩
  | .hbm, ⟨32, _⟩ => ⟨S16x1024, .i32⟩
  | .hbm, ⟨33, _⟩ => ⟨S16x1024, .i32⟩
  | .hbm, ⟨34, _⟩ => ⟨S16x1024x1, .i32⟩
  | .hbm, ⟨35, _⟩ => ⟨S1, .i32⟩
  | .hbm, ⟨36, _⟩ => ⟨S_, .i32⟩
  | .hbm, ⟨37, _⟩ => ⟨S16x1024x1, .i32⟩
  | .hbm, ⟨38, _⟩ => ⟨S16x1024x1, .i1⟩
  | .hbm, ⟨39, _⟩ => ⟨S1x1x1, .i32⟩
  | .hbm, ⟨40, _⟩ => ⟨S16x1024x1, .i32⟩
  | .hbm, ⟨41, _⟩ => ⟨S16x1024x1, .i1⟩
  | .hbm, ⟨42, _⟩ => ⟨S16x1024x1, .i1⟩
  | .hbm, ⟨43, _⟩ => ⟨S_, .i1⟩
  | .hbm, ⟨44, _⟩ => ⟨S16x1024, .i1⟩
  | .hbm, ⟨45, _⟩ => ⟨S16x1024x64, .f32⟩
  | .hbm, ⟨46, _⟩ => ⟨S16x1024x64, .i1⟩
  | .hbm, ⟨47, _⟩ => ⟨S_, .f32⟩
  | .hbm, ⟨48, _⟩ => ⟨S16x1024x64, .f32⟩
  | .hbm, ⟨49, _⟩ => ⟨S16x1024x64, .f32⟩
  | .hbm, ⟨50, _⟩ => ⟨S16x1024x64, .f32⟩
  | .hbm, ⟨51, _⟩ => ⟨S16x1024x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1024x64, .f32⟩
  | .hbm, ⟨57, _⟩ => ⟨S16x1024x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x1024x64, .f32⟩
  | .hbm, ⟨66, _⟩ => ⟨S16x1024x64, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Rows.lean ====
abbrev S1024x64 : Shape := ⟨2, ![1024, 64]⟩
abbrev S16x1024 : Shape := ⟨2, ![16, 1024]⟩
abbrev S_ : Shape := ⟨0, ![]⟩
abbrev S1024x128 : Shape := ⟨2, ![1024, 128]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S1x128 : Shape := ⟨2, ![1, 128]⟩
abbrev S128 : Shape := ⟨1, ![128]⟩
abbrev S16384x64 : Shape := ⟨2, ![16384, 64]⟩

abbrev nBuf : Table → Nat
  | .hbm => 8
  | .local .scVector .vmem => 2
  | _ => 0

abbrev bufTy : (tb : Table) → Fin (nBuf tb) → BufTy
  | .hbm, ⟨0, _⟩ => ⟨S1024x64, .f32⟩
  | .hbm, ⟨1, _⟩ => ⟨S16x1024, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S128x128, .i32⟩
  | .hbm, ⟨6, _⟩ => ⟨S16384x128, .f32⟩
  | .hbm, ⟨7, _⟩ => ⟨S16384x64, .f32⟩
  | .local .scVector .vmem, ⟨0, _⟩ => ⟨S4x128, .i32⟩
  | .local .scVector .vmem, ⟨1, _⟩ => ⟨S512x128, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_42_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_42_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Take.lean ====
abbrev S1024x64 : Shape := ⟨2, ![1024, 64]⟩
abbrev S16x1024 : Shape := ⟨2, ![16, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 26
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S16x1024, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.GatherBatch.lean ====
/-
  Several indirect gathers outstanding on ONE DMA semaphore. Each gather is taken as as many transfers of the
  semaphore's counted batch as it has rows: issuing a gather of `o` rows takes the next `o` transfers of the batch,
  and what the batch delivers once every wait is done is every row of every gather.
-/
module

public import Idealize.ShloMosaic.Lib.SparseCore.Stream
public import Idealize.ShloMosaic.Lib.Batch

@[expose] public section

noncomputable section

namespace Cert.Proof.GatherBatch

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## Taking a run of a batch's transfers -/

/-- Two assertions each of which gives the other are one. -/
theorem eq_of_both {P R : sProp 𝕄} (h : P ⊢ R) (h' : R ⊢ P) : P = R := BI.Entails.antisymm h h'

/-- What is kept for the transfers from the `k`-th on is what is kept for the next `o` of them and what is kept for
    those from the `k + o`-th on. -/
theorem pending_run {n : ℕ} (Φ : Fin n → sProp 𝕄) (k : ℕ) :
    ∀ (o : ℕ) (h : k + o ≤ n), bigSep (Transfers.pending k) Φ
      = iprop((bigSep Finset.univ fun j : Fin o => Φ ⟨k + j.val, by omega⟩) ∗ bigSep (Transfers.pending (k + o)) Φ) := by
  intro o
  induction o generalizing k with
  | zero =>
    intro h
    rw [Finset.univ_eq_empty, BI.bigSep_empty]
    refine eq_of_both ?_ ?_
    · iintro H; isplitr; · iempintro
      iexact H
    · iintro ⟨-, H⟩; iexact H
  | succ o ih =>
    intro h
    have e := ih (k + 1) (by omega)
    have e1 : bigSep (Transfers.pending (k + 1 + o)) Φ = bigSep (Transfers.pending (k + (o + 1))) Φ := by
      rw [show k + 1 + o = k + (o + 1) by omega]
    rw [Transfers.bigSep_pending_step Φ k (by omega), e, e1, bigSep_univ_succ (m := o)]
    have e2 : (fun j : Fin o => Φ ⟨k + 1 + j.val, by omega⟩) = fun j : Fin o => Φ ⟨k + j.succ.val, by have := j.isLt; simp; omega⟩ :=
      funext fun j => congrArg Φ (Fin.ext (by simp; omega))
    rw [e2]
    change _ = iprop((Φ ⟨k, by omega⟩ ∗ _) ∗ _)
    refine eq_of_both ?_ ?_
    · iintro ⟨HA, HB, HC⟩
      isplitl [HA HB]; · isplitl [HA] <;> iassumption
      iexact HC
    · iintro ⟨⟨HA, HB⟩, HC⟩
      isplitl [HA]; · iexact HA
      isplitl [HB] <;> iassumption

/-! ## What one row of a gather delivers -/

section Rule

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Row `j` of a gather, delivered: the destination's row `j` written with the source's row `r j`, the list's entry
    `j` back, and the row's piece of the share of the source back. -/
def rowGives (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance rowGives_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowGives (Ix := Ix) (Name := Name) (U := U) (Lvl := Lvl) c src dst hg offs hn ho q qo fs fd fo r j) := by
  unfold rowGives; infer_instance

theorem entry_bijective (hg : s₀.Gathers a s) (hn : si.numel = s.size hg.axis') :
    Function.Bijective fun j : Fin (s.size hg.axis') => si.rowMajor.symm (j.cast hn.symm) :=
  si.rowMajor.symm.bijective.comp (finCongr hn.symm).bijective

/-- Every row delivered is the destination written with the gather's payload, the share of the source whole again,
    and the list back. -/
theorem rows_all (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    (bigSep Finset.univ fun j => rowGives (Ix := Ix) (Name := Name) (U := U) (Lvl := Lvl) c src dst hg offs hn ho q qo fs fd fo r j)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold rowGives
  have hW : ∀ (j : Fin (s.size hg.axis')) i, src.view.read (Elt F) fs (hg.rowIdx (r j) i)
      = gatherPayload hg (src.view.read (Elt F) fs) r ((s.rowRect hg.axis' j).emb i) := fun j i => by
    unfold gatherPayload; rw [Shape.Gathers.idx_rowRect_emb]
  iintro H
  ihave H' := Transfers.bigSep_sep_out _ _ _ $$ H
  icases H' with ⟨HDE, HS⟩
  ihave H' := Transfers.bigSep_sep_out _ _ _ $$ HDE
  icases H' with ⟨HD, HE⟩
  isplitl [HD]
  · iapply (show (bigSep Finset.univ fun j => (dst.view.loc c ↦[(dst.view.slice (s.rowRect hg.axis' j)).set]{fullShare}
            ((dst.view.slice (s.rowRect hg.axis' j)).write (Elt F) fd (fun i => src.view.read (Elt F) fs (hg.rowIdx (r j) i)) Finset.univ) : sProp 𝕄))
          ⊢ (dst.view.loc c ↦[dst.view.set]{fullShare} (dst.view.write (Elt F) fd (gatherPayload hg (src.view.read (Elt F) fs) r) Finset.univ) : sProp 𝕄)
        from pointsTo_rows_write c dst.view hg.axis' fd _ _ hW) $$ HD
  isplitl [HS]; · iapply (Entails.of_eq (pointsTo_piecesOf (src.view.set) fs ho q).symm) $$ HS
  iapply (Entails.of_eq (pointsTo_entries c offs.view _ (entry_bijective hg hn) qo fo).symm) $$ HE

/-! ## The issue -/

/-- Issuing an indirect gather on a semaphore whose batch has `k` of its `n` transfers issued: with a share of the
    source, the destination outright and a share of the list, every word in range, the gather takes the batch's next
    transfers, one a row, each row delivering what the batch names for it. -/
theorem wp_gatherInto [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {cont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} (D : Fin n → sProp 𝕄) {k u : ℕ} (hk : k + s.size hg.axis' ≤ n) (hu : u ≤ k * N)
    (hD : ∀ j : Fin (s.size hg.axis'), rowGives c src dst hg offs hn ho q qo fs fd fo (rows (offs.view.read (Elt F) fo) hn hin) j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u
              -∗ wp frame (wpE defs 𝒱 c bd) Set.univ (cont ⟨⟩) Q)
          -∗ wp frame (wpE defs 𝒱 c bd) Set.univ (enqueueIndirectGather hp src dst hg offs hn sem hsrc he hsp hr >>= cont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have agree : S.RowsAgree := by
    intro j x x' ρ ρ' h h'
    obtain ⟨_, _, rfl⟩ := Option.map_eq_some_iff.mp h
    obtain ⟨_, _, rfl⟩ := Option.map_eq_some_iff.mp h'
    rfl
  have named : ∀ j, S.row j (S.word fo j) = some (rd j) := fun j => by
    change (rowOf (s₀.size hg.axis) (offs.view.read (Elt F) fo (S.entry j))).map _ = _
    rw [rowOf_of_lt (hin _)]; rfl
  have total : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_run (fun t => count EC (γ t) 0) k (s.size hg.axis') hk)) $$ HI
  icases HI' with ⟨Hnow, HI⟩
  ihave Hd' := (Entails.of_eq (pointsTo_rows c dst.view hg.axis' fullShare fd)) $$ Hd
  ihave Ho' := (Entails.of_eq (pointsTo_entries c offs.view _ (entry_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) agree named total) $$ [Hd' Ho' Hs' Hnow]
  · have one : ∀ j : Fin (s.size hg.axis'), iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (si.rowMajor.symm (j.cast hn.symm))}]{qo} fo))
            ∗ (src.view.loc c ↦[src.view.set]{pieceOf q _ ho j} fs)) ∗ count EC (γ ⟨k + j.val, by omega⟩) 0))
        ⊢ iprop(S.heldEntry qo fo j ∗ (S.heldEntry qo fo j -∗ rowRes c (rd j))) := fun j => by
      iintro ⟨#Hinv, ⟨⟨Hr, He⟩, Hsq⟩, Hγ⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd (fun i => src.view.read (Elt F) fs (hg.rowIdx (r j) i)) Finset.univ))
        ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcr : (rd j).dst.view.amount (.dma sem) = N := hN j
        rw [hcr]
        iapply (Transfers.batch_creditUpdate EC (D := D) (γ := γ) (γ₀ := γ₀) ⟨k + j.val, by omega⟩ (hD j))
        isplitr; · iexact Hinv
        iexact Hγ
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hnow]; · isplitl [H2] <;> iassumption
    iapply (Transfers.bigSep_mono_pers Finset.univ _ _ _ fun j _ => one j)
    isplitr; · iexact Hinv
    iexact H3
  · iintro Hnew
    iapply Hk
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hnew as H
    iexact H

end Rule

end Cert.Proof.GatherBatch

end
-- ==== Proof.SC.Values.lean ====
/-
  The SparseCore call's values, as plain functions: what a row-gather leaves in the output, in one subcore's rows
  buffer, and the facts that the windows the subcore's code names hold exactly those.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.GatherBatch
public import proofs.«01_k».proof.Proof.Gen.Rows
public import proofs.«01_k».proof.Proof.Gen.Rows.Skeleton

@[expose] public section

noncomputable section

namespace Cert.Proof.SC

open Cert.Rows Cert.Rows.Gen
open Idealize.ShloMosaic
open Idealize.ShloMosaic.ValueIdx (ix1 ix2)
open Idealize.ShloMosaic.SparseCore (S V T gatherPayload rows)

variable {F : FTy → Type}

local notation "iV" => (Memref.whole Cert.Rows.main_v1_scv : Memref Cert.Rows.sig Kind.scVector Space.hbm Cert.Rows.S128x128 EltTy.i32)
local notation "xV" => (Memref.whole Cert.Rows.main_v0_scv : Memref Cert.Rows.sig Kind.scVector Space.hbm Cert.Rows.S1024x128 EltTy.f32)
local notation "oV" => (Memref.whole Cert.Rows.main_v2_scv : Memref Cert.Rows.sig Kind.scVector Space.hbm Cert.Rows.S16384x128 EltTy.f32)
local notation "sV" => (Memref.whole Cert.Rows.cc0_scratch0 : Memref Cert.Rows.sig Kind.scVector Space.vmem Cert.Rows.S4x128 EltTy.i32)
local notation "rV" => (Memref.whole Cert.Rows.cc0_scratch1 : Memref Cert.Rows.sig Kind.scVector Space.vmem Cert.Rows.S512x128 EltTy.f32)

/-! ## The gathered rows -/

/-- The table's row that a list word names. -/
def rowAt (w : BitVec 32) : Fin 1024 := ⟨w.toNat % 1024, Nat.mod_lt _ (by decide)⟩

/-- The gathered rows from a list held as `[p, 128]`: row `r` is the table's row named by the list's word at
    `(r / 128, r % 128)`. -/
def gathered {p n : ℕ} (h : n = 128 * p) (t : S1024x128.Idx → Elt F .f32) (l : (⟨2, ![p, 128]⟩ : Shape).Idx → BitVec 32) :
    (⟨2, ![n, 128]⟩ : Shape).Idx → Elt F .f32 :=
  fun x => t (ix2 (rowAt (l (ix2 ⟨(x 0).val / 128, Nat.div_lt_of_lt_mul (h ▸ (x 0).isLt)⟩ ⟨(x 0).val % 128, Nat.mod_lt _ (by decide)⟩))) (x 1))

/-- The whole call's output, and one subcore's rows buffer. -/
abbrev gatOut (t : S1024x128.Idx → Elt F .f32) (l : S128x128.Idx → BitVec 32) : S16384x128.Idx → Elt F .f32 := gathered (p := 128) rfl t l
abbrev gatLoc (t : S1024x128.Idx → Elt F .f32) (l : S4x128.Idx → BitVec 32) : S512x128.Idx → Elt F .f32 := gathered (p := 4) rfl t l

/-! ## The windows a subcore names -/

/-- The row offset of window `b` of the rows buffer, and of row `b` of the list. -/
def winOff : Fin 4 → ℕ | 0 => 0 | 1 => 128 | 2 => 256 | 3 => 384
def lstOff : Fin 4 → ℕ | 0 => 0 | 1 => 1 | 2 => 2 | 3 => 3
theorem winOff_eq : ∀ b, winOff b = 128 * b.val := by decide
theorem lstOff_eq : ∀ b, lstOff b = b.val := by decide
theorem winInb : ∀ b a, (![winOff b, 0] : Fin 2 → ℕ) a + S128x128.size a ≤ S512x128.size a := by decide
theorem lstInb : ∀ b a, (![lstOff b, 0] : Fin 2 → ℕ) a + S1x128.size a ≤ S4x128.size a := by decide

abbrev winR (b : Fin 4) : Rect S512x128 := Rect.unit (s := S512x128) ![winOff b, 0] S128x128.size (winInb b)
abbrev lstR (b : Fin 4) : Rect S4x128 := Rect.unit (s := S4x128) ![lstOff b, 0] S1x128.size (lstInb b)
/-- Window `b` of the rows buffer (128 rows), row `b` of the list, all of the table. -/
abbrev dstW (b : Fin 4) : Memref sig .scVector .vmem S128x128 .f32 := (rV).slice (winR b) (fun _ => rfl)
abbrev lstW (b : Fin 4) : Memref sig .scVector .vmem S128 .i32 := ((sV).slice (lstR b) (fun _ => rfl)).squeeze S128 squeezes_S1x128_S128
abbrev xAllK : Memref sig .scVector .hbm S1024x128 .f32 := (xV).slice (Rect.unit (s := S1024x128) ![0, 0] S1024x128.size inb_S1024x128_S1024x128_0_0) (fun _ => rfl)

abbrev irowK (L : grid0.Coords) : Rect S128x128 := Rect.unit (s := S128x128) (k0_off1 L) S4x128.size (k0_off1_inb L)
abbrev orowK (L : grid0.Coords) : Rect S16384x128 := Rect.unit (s := S16384x128) (k0_off2 L) S512x128.size (k0_off2_inb L)
/-- The subcore's four rows of the list, and its 512 rows of the output. -/
abbrev iRowK (L : grid0.Coords) : Memref sig .scVector .hbm S4x128 .i32 := (iV).slice (irowK L) (fun _ => rfl)
abbrev oRowK (L : grid0.Coords) : Memref sig .scVector .hbm S512x128 .f32 := (oV).slice (orowK L) (fun _ => rfl)

/-- The list's words a subcore fetches. -/
abbrev lst (l : S128x128.Idx → BitVec 32) (L : grid0.Coords) : S4x128.Idx → BitVec 32 := (iRowK L).view.read (Elt F) l

theorem lst_apply (l : S128x128.Idx → BitVec 32) (L : grid0.Coords) (x : S4x128.Idx) :
    lst (F := F) l L x = l (ix2 ⟨8 * (L 1).val + 4 * (L 0).val + (x 0).val, by have := (L 1).isLt; have := (L 0).isLt; have := (x 0).isLt; simp_all [grid0]; omega⟩ (x 1)) := by
  show (iRowK L).view.read (Elt F) l x = _
  rw [View.read_apply]
  refine (cast_eq _ _).trans (congrArg l ?_)
  funext a
  apply Fin.ext
  show (k0_off1 L) a + 1 * (x a).val = _
  rw [k0_off1_eq]
  match a with
  | 0 => simp; rfl
  | 1 => simp; rfl

theorem lstW_read (l : S4x128.Idx → BitVec 32) (b : Fin 4) (k : Fin 128) :
    (lstW b).view.read (Elt F) l (S128.rowMajor.symm (k.cast rfl)) = l (ix2 b k) := by
  rw [View.read_apply]
  refine (cast_eq _ _).trans (congrArg l ?_)
  show (lstR b).emb (Shape.reshapeEquiv squeezes_S1x128_S128.numel_eq _) = _
  rw [Shape.reshapeEquiv_eq_of_rowMajor (y := ix2 (0 : Fin 1) k)]
  · funext a
    apply Fin.ext
    show (![lstOff b, 0] : Fin 2 → ℕ) a + 1 * _ = _
    match a with
    | 0 => simp [lstOff_eq]
    | 1 => simp
  · rw [Equiv.apply_symm_apply]
    rw [Shape.rowMajor_val_two]
    simp
    rfl

theorem xAll_read (t : S1024x128.Idx → Elt F .f32) (x : S1024x128.Idx) : xAllK.view.read (Elt F) t x = t x := by
  rw [View.read_apply]
  refine (cast_eq _ _).trans (congrArg t ?_)
  funext a
  apply Fin.ext
  show (![0, 0] : Fin 2 → ℕ) a + 1 * (x a).val = _
  match a with
  | 0 => simp
  | 1 => simp

/-- Window `b` of the rows buffer, written by the gather down row `b` of the list, holds the gathered rows. -/
theorem win_written (t : S1024x128.Idx → Elt F .f32) (l : S4x128.Idx → BitVec 32) (b : Fin 4) (fr : S512x128.Idx → Elt F .f32)
    (hin : ∀ x, ((lstW b).view.read (Elt F) l x).toNat < S1024x128.size gathers_S1024x128_S128x128.axis) :
    ∀ i ∈ (dstW b).view.set, (dstW b).view.write (Elt F) fr (gatherPayload gathers_S1024x128_S128x128 (xAllK.view.read (Elt F) t)
        (rows ((lstW b).view.read (Elt F) l) rfl hin)) Finset.univ i = gatLoc t l i := by
  intro i hi
  obtain ⟨x, -, rfl⟩ := Finset.mem_map.mp hi
  rw [View.write_emb_of_mem _ _ (Finset.mem_univ x)]
  refine (cast_eq _ _).trans ?_
  unfold gatherPayload
  rw [xAll_read]
  have e0 : ((dstW b).view.emb x 0).val = 128 * b.val + (x 0).val := by
    show (![winOff b, 0] : Fin 2 → ℕ) 0 + 1 * (x 0).val = _
    simp [winOff_eq]
  have e1 : ((dstW b).view.emb x 1).val = (x 1).val := by
    show (![winOff b, 0] : Fin 2 → ℕ) 1 + 1 * (x 1).val = _
    simp
  have hx := (x 0).isLt
  have hl : (ix2 (⟨((dstW b).view.emb x 0).val / 128, by rw [e0]; have := b.isLt; simp at hx; omega⟩ : Fin 4)
      (⟨((dstW b).view.emb x 0).val % 128, Nat.mod_lt _ (by decide)⟩ : Fin 128) : S4x128.Idx) = ix2 b (x 0) := by
    simp at hx
    funext a
    match a with
    | 0 => apply Fin.ext; show ((dstW b).view.emb x 0).val / 128 = b.val; rw [e0]; omega
    | 1 => apply Fin.ext; show ((dstW b).view.emb x 0).val % 128 = (x 0).val; rw [e0]; omega
  show t _ = t _
  refine congrArg t ?_
  rw [show (ix2 (⟨((dstW b).view.emb x 0).val / 128, _⟩ : Fin 4) (⟨((dstW b).view.emb x 0).val % 128, _⟩ : Fin 128) : S4x128.Idx) = ix2 b (x 0) from hl]
  have e := congrArg BitVec.toNat (lstW_read (F := F) l b (x 0))
  have hlt : (l (ix2 b (x 0))).toNat < 1024 := lt_of_eq_of_lt e.symm (hin _)
  funext a
  match a with
  | 0 =>
    apply Fin.ext
    show ((lstW b).view.read (Elt F) l (S128.rowMajor.symm ((x 0).cast rfl))).toNat = (l (ix2 b (x 0))).toNat % 1024
    rw [Nat.mod_eq_of_lt hlt]
    exact e
  | 1 =>
    apply Fin.ext
    show (x 1).val = ((dstW b).view.emb x 1).val
    rw [e1]

/-- One write over all of a view, read at an element of it. -/
theorem writes_whole_at {κ : Kind} {sp : Space} {s : Shape} {e : EltTy} (v : View sig κ sp s e) (f : v.ty.Contents (Elt F)) (w : s.Idx → Elt F e)
    (x : s.Idx) : v.writes (Elt F) f [⟨Rect.whole s, w⟩] (v.emb x) = cast (congrArg (Elt F) v.elt_eq.symm) (w x) := by
  have e : (v.slice (Rect.whole s)).emb x = v.emb x := congrArg v.emb (funext fun a => Fin.ext (by
    show 0 + 1 * (x a).val = (x a).val; omega))
  rw [View.writes_cons, View.writes_nil, ← e]
  exact View.write_emb_of_mem (v := v.slice (Rect.whole s)) f w (Finset.mem_univ (x : (Rect.whole s).shape.Idx))

/-- The subcore's rows of the output, written with its rows buffer, hold the call's gathered rows. -/
theorem out_written (t : S1024x128.Idx → Elt F .f32) (l : S128x128.Idx → BitVec 32) (L : grid0.Coords) (fo : S16384x128.Idx → Elt F .f32)
    (w : S512x128.Idx → Elt F .f32) (hw : w = gatLoc t (lst (F := F) l L)) :
    ∀ i ∈ (oRowK L).view.set, (oRowK L).view.writes (Elt F) fo [⟨Rect.whole S512x128, w⟩] i = gatOut t l i := by
  subst hw
  intro i hi
  obtain ⟨x, -, rfl⟩ := Finset.mem_map.mp hi
  rw [writes_whole_at]
  refine (cast_eq _ _).trans ?_
  have e0 : ((oRowK L).view.emb x 0).val = 1024 * (L 1).val + 512 * (L 0).val + (x 0).val := by
    show (k0_off2 L) 0 + 1 * (x 0).val = _
    rw [k0_off2_eq]; simp
  have e1 : (oRowK L).view.emb x 1 = x 1 := by
    apply Fin.ext
    show (k0_off2 L) 1 + 1 * (x 1).val = _
    rw [k0_off2_eq]; simp
  show t _ = t _
  rw [lst_apply, e1]
  refine congrArg (fun w => t (ix2 (rowAt (l w)) (x 1))) ?_
  funext a
  match a with
  | 0 =>
    apply Fin.ext
    show 8 * (L 1).val + 4 * (L 0).val + (x 0).val / 128 = ((oRowK L).view.emb x 0).val / 128
    rw [e0]; omega
  | 1 =>
    apply Fin.ext
    show (x 0).val % 128 = ((oRowK L).view.emb x 0).val % 128
    rw [e0]; omega

end Cert.Proof.SC

end
-- ==== Proof.SC.Tile.lean ====
/-
  One vector subcore's task of the row gather: it fetches its four rows of the list, has four indirect gathers
  outstanding on one semaphore, one for each row, waits for all four and writes its 512 gathered rows out.
-/
module

public import proofs.«01_k».proof.Proof.SC.Values

@[expose] public section

noncomputable section

namespace Cert.Proof.SC

open Cert.Rows Cert.Rows.Gen Cert.Proof.GatherBatch
open Idealize.ShloMosaic
open Idealize.ShloMosaic.ValueIdx (ix1 ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and each task's part of them -/

abbrev iLoc (d : Dev nD) : Loc nD τ sig := (SparseCore.T d).loc main_v1
abbrev xLoc (d : Dev nD) : Loc nD τ sig := (SparseCore.T d).loc main_v0
abbrev oLoc (d : Dev nD) : Loc nD τ sig := (SparseCore.T d).loc main_v2

local notation "iV" => (Memref.whole Cert.Rows.main_v1_scv : Memref Cert.Rows.sig Kind.scVector Space.hbm Cert.Rows.S128x128 EltTy.i32)
local notation "xV" => (Memref.whole Cert.Rows.main_v0_scv : Memref Cert.Rows.sig Kind.scVector Space.hbm Cert.Rows.S1024x128 EltTy.f32)
local notation "oV" => (Memref.whole Cert.Rows.main_v2_scv : Memref Cert.Rows.sig Kind.scVector Space.hbm Cert.Rows.S16384x128 EltTy.f32)
local notation "sV" => (Memref.whole Cert.Rows.cc0_scratch0 : Memref Cert.Rows.sig Kind.scVector Space.vmem Cert.Rows.S4x128 EltTy.i32)
local notation "rV" => (Memref.whole Cert.Rows.cc0_scratch1 : Memref Cert.Rows.sig Kind.scVector Space.vmem Cert.Rows.S512x128 EltTy.f32)

theorem idiv : 32 ∣ S128x128.size 0 := ⟨4, rfl⟩
theorem odiv : 32 ∣ S16384x128.size 0 := ⟨512, rfl⟩
abbrev irow (w : Fin 32) : Rect S128x128 := Rect.part (s := S128x128) (a₀ := 0) idiv w
abbrev orow (w : Fin 32) : Rect S16384x128 := Rect.part (s := S16384x128) (a₀ := 0) odiv w
abbrev iRowSet (w : Fin 32) : Finset S128x128.Idx := ((iV).view.slice (irow w)).set
abbrev oRowSet (w : Fin 32) : Finset S16384x128.Idx := ((oV).view.slice (orow w)).set

/-- Task `w`'s share of the table. -/
abbrev xq (w : Fin 32) : PosShare TreeShare := pieceOf fullShare 32 (by decide) w

/-- The task of a grid position: subcore major, SparseCore minor. -/
def wOf (L : grid0.Coords) : Fin 32 := ⟨2 * (L 1).val + (L 0).val, by have h0 : (L 0).val < 2 := (L 0).isLt; have h1 : (L 1).val < 16 := (L 1).isLt; omega⟩

theorem irowK_eq (L : grid0.Coords) : irowK L = irow (wOf L) := by
  unfold irowK irow Rect.part Rect.block
  congr 1 <;> funext a
  · rw [k0_off1_eq]
    match a with
    | 0 => simp [Shape.partIx, Shape.partSize, wOf]; omega
    | 1 => simp [Shape.partIx, Shape.partSize]
  · match a with
    | 0 => simp [Shape.partSize]
    | 1 => simp [Shape.partSize]
theorem orowK_eq (L : grid0.Coords) : orowK L = orow (wOf L) := by
  unfold orowK orow Rect.part Rect.block
  congr 1 <;> funext a
  · rw [k0_off2_eq]
    match a with
    | 0 => simp [Shape.partIx, Shape.partSize, wOf]; omega
    | 1 => simp [Shape.partIx, Shape.partSize]
  · match a with
    | 0 => simp [Shape.partSize]
    | 1 => simp [Shape.partSize]

theorem set_iRowK (L : grid0.Coords) : (iRowK L).view.set = iRowSet (wOf L) := by
  show ((iV).view.slice (irowK L)).set = ((iV).view.slice (irow (wOf L))).set
  exact irowK_eq L ▸ rfl
theorem set_oRowK (L : grid0.Coords) : (oRowK L).view.set = oRowSet (wOf L) := by
  show ((oV).view.slice (orowK L)).set = ((oV).view.slice (orow (wOf L))).set
  exact orowK_eq L ▸ rfl

theorem set_xAllK : xAllK.view.set = Finset.univ := by
  refine Finset.eq_univ_of_forall fun i => Finset.mem_map.mpr ⟨i, Finset.mem_univ _, ?_⟩
  funext a
  apply Fin.ext
  show (![0, 0] : Fin 2 → ℕ) a + 1 * (i a).val = _
  match a with
  | 0 => simp
  | 1 => simp

/-! ## The four windows of the rows buffer, and the four rows of the list -/

theorem wdiv : 4 ∣ S512x128.size 0 := ⟨128, rfl⟩
theorem ldiv : 4 ∣ S4x128.size 0 := ⟨1, rfl⟩
theorem winR_eq (b : Fin 4) : winR b = Rect.part (s := S512x128) (a₀ := 0) wdiv b := by
  unfold winR Rect.part Rect.block
  congr 1 <;> funext a
  · match a with
    | 0 => simp [Shape.partIx, Shape.partSize, winOff_eq]; omega
    | 1 => simp [Shape.partIx, Shape.partSize]
  · match a with
    | 0 => simp [Shape.partSize]
    | 1 => simp [Shape.partSize]
theorem lstR_eq (b : Fin 4) : lstR b = Rect.part (s := S4x128) (a₀ := 0) ldiv b := by
  unfold lstR Rect.part Rect.block
  congr 1 <;> funext a
  · match a with
    | 0 => simp [Shape.partIx, Shape.partSize, lstOff_eq]
    | 1 => simp [Shape.partIx, Shape.partSize]
  · match a with
    | 0 => simp [Shape.partSize]
    | 1 => simp [Shape.partSize]
theorem set_dstW (b : Fin 4) : (dstW b).view.set = (Rect.part (s := S512x128) (a₀ := 0) wdiv b).set := by
  show ((View.whole (cc0_scratch1 : Ref sig .scVector)).slice (winR b)).set = _
  rw [View.set_slice]
  exact Finset.map_refl.trans (congrArg (fun r : Rect _ => r.set) (winR_eq b))
theorem set_lstW (b : Fin 4) : (lstW b).view.set = (Rect.part (s := S4x128) (a₀ := 0) ldiv b).set := by
  show (((View.whole (cc0_scratch0 : Ref sig .scVector)).slice (lstR b)).reshape S128 squeezes_S1x128_S128.numel_eq).set = _
  rw [View.set_reshape, View.set_slice]
  exact Finset.map_refl.trans (congrArg (fun r : Rect _ => r.set) (lstR_eq b))

/-- Four assertions at once, one by one. -/
theorem four (Φ : Fin 4 → sProp 𝕄) : bigSep Finset.univ Φ = iprop(Φ 0 ∗ Φ 1 ∗ Φ 2 ∗ Φ 3) := by
  rw [bigSep_univ_succ (m := 3), bigSep_univ_succ (m := 2), bigSep_univ_succ (m := 1), bigSep_univ_of_subsingleton (0 : Fin 1)]
  rfl

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev rLoc (d : Dev nD) (L : grid0.Coords) : Loc nD τ sig := (thr d L).loc cc0_scratch1
abbrev sLoc (d : Dev nD) (L : grid0.Coords) : Loc nD τ sig := (thr d L).loc cc0_scratch0

/-- The rows buffer whole is its four windows; the list buffer whole is its four rows. -/
theorem rows_windows (f : Buf (Elt F) (rLoc d L)) :
    (rLoc d L ↦{fullShare} f : sProp 𝕄) = bigSep Finset.univ fun b : Fin 4 => (dstW b).view.loc (thr d L) ↦[(dstW b).view.set]{fullShare} f := by
  have e : (Finset.univ : Finset (Fin 4)).biUnion (fun b => (dstW b).view.set) = Finset.univ :=
    (Finset.biUnion_congr rfl fun b _ => set_dstW b).trans (Rect.biUnion_part wdiv)
  have h := pointsTo_biUnion (Ix := HIx 1) (Name := ℕ) (U := UU) (Lvl := ℕ) (Val := Elt F) (q := fullShare) (f := f) Finset.univ (ℓ := rLoc d L) (fun b : Fin 4 => (dstW b).view.set) fun i _ j _ h => by
    rw [set_dstW, set_dstW]; exact Rect.part_disjoint wdiv h
  rw [e] at h
  exact h
theorem list_rows (f : Buf (Elt F) (sLoc d L)) :
    (sLoc d L ↦{fullShare} f : sProp 𝕄) = bigSep Finset.univ fun b : Fin 4 => (lstW b).view.loc (thr d L) ↦[(lstW b).view.set]{fullShare} f := by
  have e : (Finset.univ : Finset (Fin 4)).biUnion (fun b => (lstW b).view.set) = Finset.univ :=
    (Finset.biUnion_congr rfl fun b _ => set_lstW b).trans (Rect.biUnion_part ldiv)
  have h := pointsTo_biUnion (Ix := HIx 1) (Name := ℕ) (U := UU) (Lvl := ℕ) (Val := Elt F) (q := fullShare) (f := f) Finset.univ (ℓ := sLoc d L) (fun b : Fin 4 => (lstW b).view.set) fun i _ j _ h => by
    rw [set_lstW, set_lstW]; exact Rect.part_disjoint ldiv h
  rw [e] at h
  exact h
/-- A share of the table is its four pieces. -/
theorem table_pieces (q : PosShare TreeShare) (f : Buf (Elt F) (xLoc d)) :
    (xLoc d ↦{q} f : sProp 𝕄)
      = bigSep Finset.univ fun b : Fin 4 => xAllK.view.loc (thr d L) ↦[xAllK.view.set]{pieceOf q 4 (by decide) b} f := by
  rw [set_xAllK]
  exact pointsTo_piecesOf Finset.univ f (by decide) q

theorem pts_iRowK (f : Buf (Elt F) (iLoc d)) :
    ((iRowK L).view.loc (V d (cV L) (jV L)) ↦[(iRowK L).view.set]{fullShare} f : sProp 𝕄) = iLoc d ↦[iRowSet (wOf L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wOf L)]{fullShare} f := by
  rw [set_oRowK]
theorem pts_sV (f : Buf (Elt F) (sLoc d L)) :
    ((sV).view.loc (V d (cV L) (jV L)) ↦{fullShare} f : sProp 𝕄) = sLoc d L ↦{fullShare} f := rfl
theorem pts_rV (f : Buf (Elt F) (rLoc d L)) :
    ((rV).view.loc (V d (cV L) (jV L)) ↦{fullShare} f : sProp 𝕄) = rLoc d L ↦{fullShare} f := rfl

abbrev cGcell (d : Dev nD) (L : grid0.Coords) : GSem nD τ sig := (thr d L, .dma cc0_scratch2.sem)
abbrev cAcell (d : Dev nD) (L : grid0.Coords) : GSem nD τ sig := (thr d L, .dma cc0_scoped0.sem)
abbrev cBcell (d : Dev nD) (L : grid0.Coords) : GSem nD τ sig := (thr d L, .dma cc0_scoped1.sem)

theorem ownSems0_V :
    (ownSems0 (V d (cV L) (jV L)) : sProp 𝕄)
      = iprop(semVal (cGcell d L) 0 ∗ semVal (cAcell d L) 0 ∗ semVal (cBcell d L) 0
          ∗ bigSep ((((ownCells (V d (cV L) (jV L))).erase (cGcell d L)).erase (cAcell d L)).erase (cBcell d L)) fun g => semVal g 0) := by
  unfold SparseCore.Cfg.ownSems0
  rw [SparseCore.bigSep_erase' ((mem_ownCells (g := cGcell d L)).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d L)).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d L)).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the four gathers deliver -/

/-- Every word of the list is a row of the table. -/
def InRange (l : S128x128.Idx → BitVec 32) : Prop := ∀ j, (l j).toNat < 1024

theorem lst_inRange {l : S128x128.Idx → BitVec 32} (h : InRange l) (b : Fin 4) (x : S128.Idx) :
    ((lstW b).view.read (Elt F) (lst (F := F) l L) x).toNat < S1024x128.size gathers_S1024x128_S128x128.axis := by
  rw [View.read_apply]
  refine lt_of_eq_of_lt (congrArg BitVec.toNat (cast_eq _ _)) ?_
  rw [lst_apply]
  exact h _

variable (tb : Buf (Elt F) (xLoc d)) (ib : Buf (Elt F) (iLoc d)) (hi : InRange ib) (fr : Buf (Elt F) (rLoc d L)) (q : PosShare TreeShare)

/-- What row `j` of gather `b` delivers. -/
abbrev deliv (b : Fin 4) (j : Fin 128) : sProp 𝕄 :=
  rowGives (thr d L) xAllK (dstW b) gathers_S1024x128_S128x128 (lstW b) rfl (by decide) (pieceOf q 4 (by decide) b) fullShare
    tb fr (lst (F := F) ib L) (rows ((lstW b).view.read (Elt F) (lst (F := F) ib L)) rfl (lst_inRange L hi b)) j

/-- The four gathers' rows in one list of 512 transfers, gather by gather. -/
def flat (t : Fin 512) : sProp 𝕄 :=
  deliv d L tb ib hi fr q ⟨t.val / 128, by omega⟩ ⟨t.val % 128, Nat.mod_lt _ (by decide)⟩

instance flat_storable (t : Fin 512) : Storable (upEmb : UEmb _ 𝕄) (flat d L tb ib hi fr q t) := by
  unfold flat; exact rowGives_storable ..

theorem flat_at (b : Fin 4) (k : ℕ) (hk : k = 128 * b.val) (j : Fin 128) (h : k + j.val < 512) :
    flat d L tb ib hi fr q ⟨k + j.val, h⟩ = deliv d L tb ib hi fr q b j := by
  subst hk
  unfold flat
  have e1 : (⟨(128 * b.val + j.val) / 128, by omega⟩ : Fin 4) = b := Fin.ext (by show (128 * b.val + j.val) / 128 = b.val; omega)
  have e2 : (⟨(128 * b.val + j.val) % 128, Nat.mod_lt _ (by decide)⟩ : Fin 128) = j := Fin.ext (by show (128 * b.val + j.val) % 128 = j.val; omega)
  show deliv d L tb ib hi fr q ⟨(128 * b.val + j.val) / 128, _⟩ ⟨(128 * b.val + j.val) % 128, _⟩ = _
  rw [e1, e2]

theorem run_eq (b : Fin 4) (k : ℕ) (hk : k = 128 * b.val) (h : k + 128 ≤ 512) :
    (bigSep Finset.univ fun j : Fin 128 => flat d L tb ib hi fr q ⟨k + j.val, by omega⟩)
      = bigSep Finset.univ fun j => deliv d L tb ib hi fr q b j :=
  bigSep_congr fun j _ => flat_at d L tb ib hi fr q b k hk j _

/-- What one whole gather delivers: its window holding its gathered rows, its piece of the table and its row of the
    list back. -/
theorem gather_done (b : Fin 4) :
    (bigSep Finset.univ fun j => deliv d L tb ib hi fr q b j)
      ⊢ (iprop(((dstW b).view.loc (thr d L) ↦[(dstW b).view.set]{fullShare} gatLoc tb (lst (F := F) ib L))
          ∗ (xAllK.view.loc (thr d L) ↦[xAllK.view.set]{pieceOf q 4 (by decide) b} tb)
          ∗ ((lstW b).view.loc (thr d L) ↦[(lstW b).view.set]{fullShare} lst (F := F) ib L)) : sProp 𝕄) := by
  refine (rows_all (thr d L) xAllK (dstW b) gathers_S1024x128_S128x128 (lstW b) rfl (by decide) _ fullShare tb fr (lst (F := F) ib L) _).trans ?_
  rw [pointsTo_congr (win_written tb (lst (F := F) ib L) b fr (lst_inRange L hi b))]

/-- All four gathers delivered: the rows buffer holding the gathered rows, the share of the table and the list back. -/
theorem all_done :
    bigSep Finset.univ (flat d L tb ib hi fr q)
      ⊢ (iprop((rLoc d L ↦{fullShare} gatLoc tb (lst (F := F) ib L)) ∗ (xLoc d ↦{q} tb) ∗ (sLoc d L ↦{fullShare} lst (F := F) ib L)) : sProp 𝕄) := by
  rw [Transfers.bigSep_pending_zero, pending_run _ 0 128 (by omega), pending_run _ (0 + 128) 128 (by omega), pending_run _ (0 + 128 + 128) 128 (by omega),
    pending_run _ (0 + 128 + 128 + 128) 128 (by omega)]
  rw [run_eq d L tb ib hi fr q 0 0 rfl (by omega), run_eq d L tb ib hi fr q 1 (0 + 128) rfl (by omega),
    run_eq d L tb ib hi fr q 2 (0 + 128 + 128) rfl (by omega), run_eq d L tb ib hi fr q 3 (0 + 128 + 128 + 128) rfl (by omega)]
  iintro ⟨H0, H1, H2, H3, -⟩
  ihave G0 := (gather_done d L tb ib hi fr q 0) $$ H0
  ihave G1 := (gather_done d L tb ib hi fr q 1) $$ H1
  ihave G2 := (gather_done d L tb ib hi fr q 2) $$ H2
  ihave G3 := (gather_done d L tb ib hi fr q 3) $$ H3
  icases G0 with ⟨A0, B0, C0⟩
  icases G1 with ⟨A1, B1, C1⟩
  icases G2 with ⟨A2, B2, C2⟩
  icases G3 with ⟨A3, B3, C3⟩
  isplitl [A0 A1 A2 A3]
  · iapply (Entails.of_eq ((rows_windows d L _).trans (four _)).symm)
    isplitl [A0]; · iexact A0
    isplitl [A1]; · iexact A1
    isplitl [A2] <;> iassumption
  isplitl [B0 B1 B2 B3]
  · iapply (Entails.of_eq ((table_pieces d L q tb).trans (four _)).symm)
    isplitl [B0]; · iexact B0
    isplitl [B1]; · iexact B1
    isplitl [B2] <;> iassumption
  iapply (Entails.of_eq ((list_rows d L _).trans (four _)).symm)
  isplitl [C0]; · iexact C0
  isplitl [C1]; · iexact C1
  isplitl [C2] <;> iassumption

end Tile

end Cert.Proof.SC

end
-- ==== Proof.SC.Body.lean ====
/-
  The task's body, run: the list fetch, the four gathers in one batch, their four waits, and the write-out.
-/
module

public import proofs.«01_k».proof.Proof.SC.Tile

@[expose] public section

noncomputable section

namespace Cert.Proof.SC

open Cert.Rows Cert.Rows.Gen Cert.Proof.GatherBatch
open Idealize.ShloMosaic
open Idealize.ShloMosaic.ValueIdx (ix1 ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Rows.main_v1_scv : Memref Cert.Rows.sig Kind.scVector Space.hbm Cert.Rows.S128x128 EltTy.i32)
local notation "xV" => (Memref.whole Cert.Rows.main_v0_scv : Memref Cert.Rows.sig Kind.scVector Space.hbm Cert.Rows.S1024x128 EltTy.f32)
local notation "oV" => (Memref.whole Cert.Rows.main_v2_scv : Memref Cert.Rows.sig Kind.scVector Space.hbm Cert.Rows.S16384x128 EltTy.f32)
local notation "sV" => (Memref.whole Cert.Rows.cc0_scratch0 : Memref Cert.Rows.sig Kind.scVector Space.vmem Cert.Rows.S4x128 EltTy.i32)
local notation "rV" => (Memref.whole Cert.Rows.cc0_scratch1 : Memref Cert.Rows.sig Kind.scVector Space.vmem Cert.Rows.S512x128 EltTy.f32)

/-- The credit one row of a gather brings. -/
abbrev rowN : ℕ := ((dstW 0).slice (S128x128.rowRect 0 (⟨0, by decide⟩ : Fin 128)) (S128x128.stride_rowRect 0 (⟨0, by decide⟩ : Fin 128))).view.dmaCredit

theorem rowN_eq (b : Fin 4) (h : S1024x128.Gathers 0 S128x128) (j : Fin (S128x128.size h.axis')) :
    ((dstW b).slice (S128x128.rowRect h.axis' j) (S128x128.stride_rowRect h.axis' j)).view.dmaCredit = rowN := rfl

theorem winN_eq (b : Fin 4) : (dstW b).view.dmaCredit = 128 * rowN := by decide +revert
theorem rowN_pos : 0 < rowN := by decide

variable (d : Dev nD) (L : grid0.Coords) (tb : Buf (Elt F) (xLoc d)) (ib : Buf (Elt F) (iLoc d)) (ob : Buf (Elt F) (oLoc d))

set_option maxHeartbeats 4000000 in
/-- The task on vector subcore `(L 0, L 1)` of device `d`: from its rows of the list, its share of the table and its
    rows of the output, it ends with the output's rows at the gathered rows and the rest as it was. -/
theorem tile_body (hF : (K (F := F)).Facts) (hi : InRange ib) (O : CellTallies nD τ sig (HIx 1)) (W : Waits sig (HIx 1)) (hO : ∀ g, O g none = 0) :
    iprop(levAts (K (F := F)).L (K (F := F)).lev ∗ emp
        ∗ ((iLoc d ↦[iRowSet (wOf L)]{fullShare} ib) ∗ (xLoc d ↦{xq (wOf L)} tb) ∗ oLoc d ↦[oRowSet (wOf L)]{fullShare} ob)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(((iLoc d ↦[iRowSet (wOf L)]{fullShare} ib) ∗ (xLoc d ↦{xq (wOf L)} tb) ∗ oLoc d ↦[oRowSet (wOf L)]{fullShare} gatOut tb ib)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__sc_gather_body_eq_skeleton, k0_part1_eq_skeleton]; unfold cc0__sc_gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (pts_sV (F := F) d L _).symm) $$ Hs
  sl_exec
  have hfo : View.write (Elt F) (sV).view fs (tile_body.sl.dma0 d L ib) Finset.univ = lst (F := F) ib L := View.write_whole_univ ..
  rw [hfo]
  imod (Transfers.batch_alloc' countersEmb (c := V d (cV L) (jV L)) (sm := .dma cc0_scratch2.sem) (default : HIx 1) rowN
    (flat d L tb ib hi fr (xq (wOf L)))) $$ HsemG with HB
  ihave Hr' := (Entails.of_eq ((rows_windows d L fr).trans (four _))) $$ Hr
  ihave Hs'' := (Entails.of_eq ((list_rows d L (lst (F := F) ib L)).trans (four _))) $$ Hs'
  ihave Hx' := (Entails.of_eq ((table_pieces d L (xq (wOf L)) tb).trans (four _))) $$ Hx
  icases Hr' with ⟨R0, R1, R2, R3⟩
  icases Hs'' with ⟨S0, S1, S2, S3⟩
  icases Hx' with ⟨X0, X1, X2, X3⟩
  simp only [bind_assoc, pure_bind]
  iapply (wp_gatherInto countersEmb 𝒱₀ (V d (cV L) (jV L)) none (hg := gathers_S1024x128_S128x128) (default : HIx 1)
      rowN (rowN_eq 0 _) (by decide) (lst_inRange L hi 0) (flat d L tb ib hi fr (xq (wOf L))) (k := 0) (u := 0) (by decide) (Nat.zero_le _)
      (fun j => Entails.of_eq (flat_at d L tb ib hi fr (xq (wOf L)) 0 (0) rfl j _).symm)) $$ [X0 R0 S0 HB]
  · isplitl [X0]; · iexact X0
    isplitl [R0]; · iexact R0
    isplitl [S0]; · iexact S0
    iexact HB
  iintro HB
  iapply (wp_gatherInto countersEmb 𝒱₀ (V d (cV L) (jV L)) none (hg := gathers_S1024x128_S128x128) (default : HIx 1)
      rowN (rowN_eq 1 _) (by decide) (lst_inRange L hi 1) (flat d L tb ib hi fr (xq (wOf L))) (k := 0 + 128) (u := 0) (by decide) (Nat.zero_le _)
      (fun j => Entails.of_eq (flat_at d L tb ib hi fr (xq (wOf L)) 1 (0 + 128) rfl j _).symm)) $$ [X1 R1 S1 HB]
  · isplitl [X1]; · iexact X1
    isplitl [R1]; · iexact R1
    isplitl [S1]; · iexact S1
    iexact HB
  iintro HB
  iapply (wp_gatherInto countersEmb 𝒱₀ (V d (cV L) (jV L)) none (hg := gathers_S1024x128_S128x128) (default : HIx 1)
      rowN (rowN_eq 2 _) (by decide) (lst_inRange L hi 2) (flat d L tb ib hi fr (xq (wOf L))) (k := 0 + 128 + 128) (u := 0) (by decide) (Nat.zero_le _)
      (fun j => Entails.of_eq (flat_at d L tb ib hi fr (xq (wOf L)) 2 (0 + 128 + 128) rfl j _).symm)) $$ [X2 R2 S2 HB]
  · isplitl [X2]; · iexact X2
    isplitl [R2]; · iexact R2
    isplitl [S2]; · iexact S2
    iexact HB
  iintro HB
  iapply (wp_gatherInto countersEmb 𝒱₀ (V d (cV L) (jV L)) none (hg := gathers_S1024x128_S128x128) (default : HIx 1)
      rowN (rowN_eq 3 _) (by decide) (lst_inRange L hi 3) (flat d L tb ib hi fr (xq (wOf L))) (k := 0 + 128 + 128 + 128) (u := 0) (by decide) (Nat.zero_le _)
      (fun j => Entails.of_eq (flat_at d L tb ib hi fr (xq (wOf L)) 3 (0 + 128 + 128 + 128) rfl j _).symm)) $$ [X3 R3 S3 HB]
  · isplitl [X3]; · iexact X3
    isplitl [R3]; · iexact R3
    isplitl [S3]; · iexact S3
    iexact HB
  iintro HB
  rw [wp_bind]; unfold SparseCore.waitIndirectGather
  iapply (Transfers.wp_waitBatchMulO countersEmb 𝒱₀ (V d (cV L) (jV L)) none (srcw := xAllK) (dstw := dstW 0) (hsrc := View.wordExact_bits rfl) (hdst := View.wordExact_bits rfl) (default : HIx 1) 128 (winN_eq 0) (u := 0)
      (by have := rowN_pos; show _ ≤ rowN * 512; omega)) $$ [HB HO]
  · isplitl [HB]; · iexact HB
    isplitl [HO]; · iexact HO
    iapply (Transfers.MayWaits.elim (SemLoc.dma cc0_scratch2.sem)) $$ Hmw
  iintro ⟨HB, HO⟩
  rw [wp_ret]; imodintro
  rw [wp_bind]
  iapply (Transfers.wp_waitBatchMulO countersEmb 𝒱₀ (V d (cV L) (jV L)) none (srcw := xAllK) (dstw := dstW 1) (hsrc := View.wordExact_bits rfl) (hdst := View.wordExact_bits rfl) (default : HIx 1) 128 (winN_eq 1) (u := 0 + 128 * rowN)
      (by have := rowN_pos; show _ ≤ rowN * 512; omega)) $$ [HB HO]
  · isplitl [HB]; · iexact HB
    isplitl [HO]; · iexact HO
    iapply (Transfers.MayWaits.elim (SemLoc.dma cc0_scratch2.sem)) $$ Hmw
  iintro ⟨HB, HO⟩
  rw [wp_ret]; imodintro
  rw [wp_bind]
  iapply (Transfers.wp_waitBatchMulO countersEmb 𝒱₀ (V d (cV L) (jV L)) none (srcw := xAllK) (dstw := dstW 2) (hsrc := View.wordExact_bits rfl) (hdst := View.wordExact_bits rfl) (default : HIx 1) 128 (winN_eq 2) (u := 0 + 128 * rowN + 128 * rowN)
      (by have := rowN_pos; show _ ≤ rowN * 512; omega)) $$ [HB HO]
  · isplitl [HB]; · iexact HB
    isplitl [HO]; · iexact HO
    iapply (Transfers.MayWaits.elim (SemLoc.dma cc0_scratch2.sem)) $$ Hmw
  iintro ⟨HB, HO⟩
  rw [wp_ret]; imodintro
  rw [wp_bind]
  iapply (Transfers.wp_waitBatchAllO countersEmb 𝒱₀ (V d (cV L) (jV L)) none (srcw := xAllK) (dstw := dstW 3) (hsrc := View.wordExact_bits rfl) (hdst := View.wordExact_bits rfl) (default : HIx 1) (winN_eq 3) rowN_pos
      (D := flat d L tb ib hi fr (xq (wOf L))) (u := 0 + 128 * rowN + 128 * rowN + 128 * rowN) (by omega)) $$ [HB HO]
  · isplitl [HB]; · iexact HB
    isplitl [HO]; · iexact HO
    iapply (Transfers.MayWaits.elim (SemLoc.dma cc0_scratch2.sem)) $$ Hmw
  iintro ⟨HD, HsemG, HO⟩
  rw [wp_ret]; imodintro
  ihave HD' := (all_done d L tb ib hi fr (xq (wOf L))) $$ HD
  icases HD' with ⟨Hr, Hx, Hs⟩
  ihave Hr' := (Entails.of_eq (pts_rV (F := F) d L _).symm) $$ Hr
  ihave Ho' := (Entails.of_eq (pts_oRowK (F := F) d L _).symm) $$ Ho
  sl_exec
  have hw : tile_body.sl.dma0_1 d L tb ib = gatLoc tb (lst (F := F) ib L) := rfl
  sl_step
  isplitl [Hi' Hx Ho']
  · isplitl [Hi']; · iapply (Entails.of_eq (pts_iRowK (F := F) d L _)); iexact Hi'
    isplitl [Hx]; · iexact Hx
    iapply (Entails.of_eq (pts_oRowK (F := F) d L _))
    iapply (Entails.of_eq (pointsTo_congr (out_written tb ib L ob _ hw)))
    iexact Ho'
  isplitl [Hs Hr' Hbufs]
  · isplitl [Hs]; · iexists _; iexact Hs
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  simp only [Finset.mem_insert] at hp
  rcases hp with hp | hp | hp | hp | hp | hp | hp
  all_goals first | exact .inl hp | exact .inr (hp ▸ rfl)

end Cert.Proof.SC

end
-- ==== Proof.SC.Launch.lean ====
/-
  The row gather's program, run: the four operations before the call, the call's two SparseCores of sixteen vector
  subcores, the slice after it.
-/
module

public import proofs.«01_k».proof.Proof.SC.Body
public import Idealize.ShloMosaic.Lib.SparseCore.Quiescent
public import Idealize.ShloMosaic.Lib.StableHlo.Run

@[expose] public section

noncomputable section

namespace Cert.Proof.SC

open Cert.Rows Cert.Rows.Gen Cert.Proof.GatherBatch
open Idealize.ShloMosaic
open Idealize.ShloMosaic.ValueIdx (ix1 ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "iV" => (Memref.whole Cert.Rows.main_v1_scv : Memref Cert.Rows.sig Kind.scVector Space.hbm Cert.Rows.S128x128 EltTy.i32)
local notation "xV" => (Memref.whole Cert.Rows.main_v0_scv : Memref Cert.Rows.sig Kind.scVector Space.hbm Cert.Rows.S1024x128 EltTy.f32)
local notation "oV" => (Memref.whole Cert.Rows.main_v2_scv : Memref Cert.Rows.sig Kind.scVector Space.hbm Cert.Rows.S16384x128 EltTy.f32)
local notation "sV" => (Memref.whole Cert.Rows.cc0_scratch0 : Memref Cert.Rows.sig Kind.scVector Space.vmem Cert.Rows.S4x128 EltTy.i32)
local notation "rV" => (Memref.whole Cert.Rows.cc0_scratch1 : Memref Cert.Rows.sig Kind.scVector Space.vmem Cert.Rows.S512x128 EltTy.f32)

variable (W : Dev nD → Valuation τ sig (Elt F))

/-! ## What the call takes and gives -/

abbrev i' : DevRef τ sig := Proc.devRef .tc main_v1
abbrev x' : DevRef τ sig := Proc.devRef .tc main_v0
abbrev o' : DevRef τ sig := Proc.devRef .tc main_v2

/-- The call's three arrays before it, at the valuation `W`. -/
abbrev ibW (d : Dev nD) : Buf (Elt F) (iLoc d) := W d i'
abbrev tbW (d : Dev nD) : Buf (Elt F) (xLoc d) := W d x'
abbrev obW (d : Dev nD) : Buf (Elt F) (oLoc d) := W d o'

/-- Task `w`'s part of the three arrays, the output at `o`. -/
abbrev part (d : Dev nD) (o : Buf (Elt F) (oLoc d)) (w : Fin 32) : sProp 𝕄 :=
  iprop((iLoc d ↦[iRowSet w]{fullShare} ibW W d) ∗ (xLoc d ↦{xq w} tbW W d) ∗ oLoc d ↦[oRowSet w]{fullShare} o)

/-- The task of SparseCore `c`, vector subcore `i`. -/
def wT (c : Fin ((K (F := F)).nCore 0)) (i : Fin ((K (F := F)).nSub 0)) : Fin 32 :=
  ⟨2 * i.val + c.val, by have h0 : c.val < 2 := c.isLt; have h1 : i.val < 16 := i.isLt; omega⟩

def P : (K (F := F)).Pay (nD := nD) (Val := Elt F) (Name := ℕ) (U := UU) where
  st := fun q d c => match q with | 0 => bigSep Finset.univ fun i : Fin ((K (F := F)).nSub 0) => part W d (obW W d) (wT c i)
  dn := fun q d c => match q with | 0 => bigSep Finset.univ fun i : Fin ((K (F := F)).nSub 0) => part W d (gatOut (tbW W d) (ibW W d)) (wT c i)
  go := fun q d c i => match q with | 0 => part W d (obW W d) (wT c i)
  td := fun q d c i => match q with | 0 => part W d (gatOut (tbW W d) (ibW W d)) (wT c i)
  x := fun _ _ => iprop(emp)

instance P_storable : (P (F := F) W).IsStorable where
  st q d c := match q with
    | 0 => (inferInstance : BI.Storable (upEmb : UEmb _ 𝕄) (bigSep Finset.univ fun i : Fin ((K (F := F)).nSub 0) => part W d (obW W d) (wT c i)))
  dn q d c := match q with
    | 0 => (inferInstance : BI.Storable (upEmb : UEmb _ 𝕄)
      (bigSep Finset.univ fun i : Fin ((K (F := F)).nSub 0) => part W d (gatOut (tbW W d) (ibW W d)) (wT c i)))
  go q d c i := match q with
    | 0 => (inferInstance : BI.Storable (upEmb : UEmb _ 𝕄) (part W d (obW W d) (wT c i)))
  td q d c i := match q with
    | 0 => (inferInstance : BI.Storable (upEmb : UEmb _ 𝕄) (part W d (gatOut (tbW W d) (ibW W d)) (wT c i)))

/-! ## The tasks' obligation -/

/-- The grid position of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A wait kept apart from the launch's own stays one of the two the launch admits. -/
theorem obl_post {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : ∀ d, InRange (ibW W d)) : (K (F := F)).TileObl (D (F := F)) 𝒱 (P W) v₀ 0 := by
  intro d c i O Ws hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tbW W d) (ibW W d) (obW W d) hF (hr d) O Ws hO).trans (wp_mono frame _ _ fun _ => obl_post)

theorem vecSplit : (K (F := F)).VecSplit' (P W) 0 := by
  intro d c
  show (bigSep Finset.univ fun i : Fin ((K (F := F)).nSub 0) => part W d (obW W d) (wT c i)) ⊢ |={Set.univ}=> iprop(
      (bigSep Finset.univ fun i : Fin ((K (F := F)).nSub 0) => part W d (obW W d) (wT c i))
      ∗ ((bigSep Finset.univ fun i : Fin ((K (F := F)).nSub 0) => part W d (gatOut (tbW W d) (ibW W d)) (wT c i))
          -∗ bigSep Finset.univ fun i : Fin ((K (F := F)).nSub 0) => part W d (gatOut (tbW W d) (ibW W d)) (wT c i)))
  iintro H; imodintro
  isplitl [H]; · iexact H
  iintro H; iexact H

/-! ## The three arrays whole, and cut into the 32 tasks' parts -/

theorem iRowSet_eq (w : Fin 32) : iRowSet w = (irow w).set := by
  show ((View.whole (main_v1_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl

theorem i_parts (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun i _ j _ h => by rw [iRowSet_eq, iRowSet_eq]; exact Rect.part_disjoint idiv h,
    (Finset.biUnion_congr rfl fun i _ => iRowSet_eq i).trans (Rect.biUnion_part idiv)]; try rfl
theorem o_parts (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet fun i _ j _ h => by rw [oRowSet_eq, oRowSet_eq]; exact Rect.part_disjoint odiv h,
    (Finset.biUnion_congr rfl fun i _ => oRowSet_eq i).trans (Rect.biUnion_part odiv)]; try rfl
theorem x_parts (d : Dev nD) (f : Buf (Elt F) (xLoc d)) :
    (xLoc d ↦{fullShare} f : sProp 𝕄) = bigSep Finset.univ fun w : Fin 32 => xLoc d ↦{xq w} f :=
  pointsTo_piecesOf _ _ _ _

/-- The 32 tasks, by SparseCore and vector subcore. -/
theorem by_core (Φ : Fin 32 → sProp 𝕄) :
    bigSep Finset.univ Φ = bigSep Finset.univ fun c : Fin ((K (F := F)).nCore 0) => bigSep Finset.univ fun i : Fin ((K (F := F)).nSub 0) => Φ (wT c i) := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show c.val + 2 * i.val = 2 * i.val + c.val
  omega

/-- The whole arrays are what the SparseCores are given (and, at the gathered rows, what they give back). -/
theorem whole_parts (d : Dev nD) (o : Buf (Elt F) (oLoc d)) :
    (iprop((iLoc d ↦{fullShare} ibW W d) ∗ (xLoc d ↦{fullShare} tbW W d) ∗ oLoc d ↦{fullShare} o) : sProp 𝕄)
      = bigSep Finset.univ fun c : Fin ((K (F := F)).nCore 0) => bigSep Finset.univ fun i : Fin ((K (F := F)).nSub 0) => part W d o (wT c i) := by
  rw [i_parts, x_parts, o_parts, ← by_core (F := F) (part W d o), bigSep_sep', bigSep_sep']

theorem dn_eq (d : Dev nD) : (bigSep Finset.univ fun c : Fin ((K (F := F)).nCore 0) => (P W).dn 0 d c)
    = iprop((iLoc d ↦{fullShare} ibW W d) ∗ (xLoc d ↦{fullShare} tbW W d) ∗ oLoc d ↦{fullShare} gatOut (tbW W d) (ibW W d)) :=
  (whole_parts W d (gatOut (tbW W d) (ibW W d))).symm

/-! ## The launch element of the certificate's ghost state -/

def u₀ : UU := (initOf (K (F := F)).hsCells (K (F := F)).hsToks, 1)

/-- Nothing, however often, is nothing. -/
theorem noneLeft {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P W).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [noneLeft]; iempintro
  rw [show (bigSep Finset.univ fun thr : Thread nD τ => bigSep Finset.univ fun q : Fin 1 => (P (F := F) W).x q thr) = bigSep Finset.univ fun _ => iprop(emp) from
    bigSep_congr fun _ _ => bigSep_univ_of_subsingleton (0 : Fin 1), noneLeft]
  iempintro

/-! ## The program on the TensorCore -/

variable (m : (ℓ : Loc nD τ sig) → Buf (Elt F) ℓ) (ρ : Dev nD → PrngReg)

abbrev opCst : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) := StableHlo.TRef.binary (.of main_arg0 : StableHlo.TRef sig ⟨S1024x64, .f32⟩) main_call0.v0 main_call0.v1
  (fun x v => pad S1024x128 ![0, 0] ![0, 64] ![0, 0] x v pads_S1024x64_S1024x128_000_0640 h_S_)
abbrev opRs : HloOp τ sig (Elt F) := StableHlo.reshape main_arg1 main_v1 (rfl) shapeCasts_S16x1024_S128x128
abbrev opSl : HloOp τ sig (Elt F) := StableHlo.unary main_v2 main_v3 (extractStridedSlice S16384x64 ![0, 0] · slices_S16384x128_S16384x64_0_0)

/-- Device `d`'s arrays at the launch, before the call, after it, and at the end. -/
abbrev V0 (d : Dev nD) : Valuation τ sig (Elt F) := fun b => m (d, b)
def V4 (d : Dev nD) : Valuation τ sig (Elt F) := (opRs (F := F)).result ((opPad (F := F)).result ((opCv (F := F)).result ((opCst (F := F)).result (V0 m d))))
def V5 (d : Dev nD) : Valuation τ sig (Elt F) := Function.update (V4 m d) o' (gatOut (tbW (V4 m) d) (ibW (V4 m) d))
def V6 (d : Dev nD) : Valuation τ sig (Elt F) := (opSl (F := F)).result (V5 m d)

abbrev S8 : Finset (DevRef τ sig) := {Proc.devRef .tc main_arg0, Proc.devRef .tc main_arg1, Proc.devRef .tc main_c, Proc.devRef .tc main_call0_v0, x', i', o', Proc.devRef .tc main_v3}

theorem held_S8 (d : Dev nD) (Z : Valuation τ sig (Elt F)) :
    (held (SparseCore.T d) S8 Z : sProp 𝕄)
      = iprop(((SparseCore.T d).loc main_arg0 ↦{fullShare} Z (Proc.devRef .tc main_arg0)) ∗ ((SparseCore.T d).loc main_arg1 ↦{fullShare} Z (Proc.devRef .tc main_arg1))
          ∗ ((SparseCore.T d).loc main_c ↦{fullShare} Z (Proc.devRef .tc main_c)) ∗ ((SparseCore.T d).loc main_call0_v0 ↦{fullShare} Z (Proc.devRef .tc main_call0_v0))
          ∗ (xLoc d ↦{fullShare} Z x') ∗ (iLoc d ↦{fullShare} Z i') ∗ (oLoc d ↦{fullShare} Z o') ∗ (SparseCore.T d).loc main_v3 ↦{fullShare} Z (Proc.devRef .tc main_v3)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) S8 (V0 m d) := by
  rw [held_S8]
  unfold unscopedBufs
  rw [show (Finset.univ.filter fun b : Ref sig .tc => ¬ b.isScoped) = {main_arg0, main_arg1, main_c, main_call0_v0, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The host operations' buffers lie among the eight. -/
theorem hCst : (opCst (F := F)).bufs ⊆ S8 := show ({Proc.devRef .tc main_c} : Finset (DevRef τ sig)) ⊆ S8 by decide
theorem hCv : (opCv (F := F)).bufs ⊆ S8 := show ({Proc.devRef .tc main_c, Proc.devRef .tc main_call0_v0} : Finset (DevRef τ sig)) ⊆ S8 by decide
theorem hPad : (opPad (F := F)).bufs ⊆ S8 := show ({Proc.devRef .tc main_arg0, Proc.devRef .tc main_call0_v0, x'} : Finset (DevRef τ sig)) ⊆ S8 by decide
theorem hRs : (opRs (F := F)).bufs ⊆ S8 := show ({Proc.devRef .tc main_arg1, i'} : Finset (DevRef τ sig)) ⊆ S8 by decide
theorem hSl : (opSl (F := F)).bufs ⊆ S8 := show ({o', Proc.devRef .tc main_v3} : Finset (DevRef τ sig)) ⊆ S8 by decide

theorem V5_o (d : Dev nD) : V5 m d o' = gatOut (tbW (V4 m) d) (ibW (V4 m) d) := Function.update_self _ _ _
theorem V5_ne (d : Dev nD) {b : DevRef τ sig} (h : b ≠ o') : V5 m d b = V4 m d b := Function.update_of_ne h _ _

abbrev FIN (d : Dev nD) : sProp 𝕄 := held (SparseCore.T d) S8 (V6 m d)

/-- The program on device `d`'s TensorCore, from the launch's arrays to the last ones. -/
theorem hmain (κ : GSem nD τ sig → ℕ) (d : Dev nD) :
    iprop((K (F := F)).ctx EH (P (V4 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opCst) (S := S8) hCst (V := V0 m d)) $$ [Hb Hheld]
  · isplitl [Hb] <;> iassumption
  iintro ⟨Hb, Hheld⟩
  rw [wp_ret]; imodintro
  iapply (wp_hlo_within 𝒱 (SparseCore.T d) none Set.univ (op := opCv) (S := S8) hCv (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S8) hPad (V := (opCv (F := F)).result ((opCst (F := F)).result (V0 m d)))) $$ [Hb Hheld]
  · isplitl [Hb] <;> iassumption
  iintro ⟨Hb, Hheld⟩
  rw [wp_ret]; imodintro; imodintro
  iapply (wp_hlo_within 𝒱 (SparseCore.T d) none Set.univ (op := opRs) (S := S8) hRs
    (V := (opPad (F := F)).result ((opCv (F := F)).result ((opCst (F := F)).result (V0 m d))))) $$ [Hb Hheld]
  · isplitl [Hb] <;> iassumption
  iintro ⟨Hb, Hheld⟩
  rw [wp_ret]; imodintro
  -- the call
  ihave Hh := (Entails.of_eq ((show held (SparseCore.T d) S8 ((opRs (F := F)).result ((opPad (F := F)).result ((opCv (F := F)).result ((opCst (F := F)).result (V0 m d))))) = held (SparseCore.T d) S8 (V4 m d) from rfl).trans (held_S8 (F := F) d (V4 m d)))) $$ Hheld
  icases Hh with ⟨Ha0, Ha1, Hc, Hcv, Hx, Hi, Ho, Hv3⟩
  iapply ((K (F := F)).wp_run (D (F := F)) 𝒱 (EH := EH) (P := P (V4 m)) κ d 0) $$ [Hst Hx Hi Ho Ha0 Ha1 Hc Hcv Hv3 Hb Hts]
  isplitr; · iexact Hctx
  isplitl [Hst]; · iexact Hst
  isplitl [Hx Hi Ho]
  · iapply (Entails.of_eq (whole_parts (V4 m) d (obW (V4 m) d)))
    isplitl [Hi]; · iexact Hi
    isplitl [Hx]; · iexact Hx
    iexact Ho
  iintro ⟨Hst, Hdn⟩
  ihave Hdn' := (Entails.of_eq (dn_eq (V4 m) d)) $$ Hdn
  icases Hdn' with ⟨Hi, Hx, Ho⟩
  -- the slice
  iapply (wp_hlo_within 𝒱 (SparseCore.T d) none Set.univ (op := opSl) (S := S8) hSl (V := V5 m d)) $$ [Hb Hx Hi Ho Ha0 Ha1 Hc Hcv Hv3]
  · isplitl [Hb]; · iexact Hb
    rw [held_S8, V5_o, V5_ne m d (show (Proc.devRef .tc main_arg0 : DevRef τ sig) ≠ o' by decide), V5_ne m d (show (Proc.devRef .tc main_arg1 : DevRef τ sig) ≠ o' by decide),
      V5_ne m d (show (Proc.devRef .tc main_c : DevRef τ sig) ≠ o' by decide), V5_ne m d (show (Proc.devRef .tc main_call0_v0 : DevRef τ sig) ≠ o' by decide),
      V5_ne m d (show x' ≠ o' by decide), V5_ne m d (show i' ≠ o' by decide), V5_ne m d (show (Proc.devRef .tc main_v3 : DevRef τ sig) ≠ o' by decide)]
    isplitl [Ha0]; · iexact Ha0
    isplitl [Ha1]; · iexact Ha1
    isplitl [Hc]; · iexact Hc
    isplitl [Hcv]; · iexact Hcv
    isplitl [Hx]; · iexact Hx
    isplitl [Hi]; · iexact Hi
    isplitl [Ho]; · iexact Ho
    iexact Hv3
  iintro ⟨Hb, Hheld⟩
  rw [wp_ret]; imodintro; imodintro
  isplitl [Hst]; · iexact Hst
  isplitl [Hheld]; · iexact Hheld
  isplitl [Hb] <;> iassumption

/-- What the claims read of device `d`'s final state: the arguments and the result at the last valuation. -/
def fq (d : Dev nD) (s' : Phys nD τ sig (Elt F)) : Prop :=
  s'.mem.mem ((SparseCore.T d).loc main_arg0) = V6 m d (Proc.devRef .tc main_arg0) ∧ s'.mem.mem ((SparseCore.T d).loc main_arg1) = V6 m d (Proc.devRef .tc main_arg1)
    ∧ s'.mem.mem ((SparseCore.T d).loc main_v3) = V6 m d (Proc.devRef .tc main_v3)

theorem hfin (d : Dev nD) (s' : Phys nD τ sig (Elt F)) : iprop(FIN m d ∗ SI s') ⊢ (⌜fq m d s'⌝ : sProp 𝕄) := by
  rw [show FIN m d = held (SparseCore.T d) S8 (V6 m d) from rfl, held_S8]
  iintro ⟨⟨Ha, Hb, -, -, -, -, -, Hr⟩, HSI⟩
  ihave H := (persistent_entails_right (SI_pointsTo_agree (st := s') (ℓ := (SparseCore.T d).loc main_arg0) (I := Finset.univ) (q := fullShare) (f := V6 m d (Proc.devRef .tc main_arg0)))) $$ [HSI Ha]
  · isplitl [HSI] <;> iassumption
  icases H with ⟨%ha, HSI, -⟩
  ihave H := (persistent_entails_right (SI_pointsTo_agree (st := s') (ℓ := (SparseCore.T d).loc main_arg1) (I := Finset.univ) (q := fullShare) (f := V6 m d (Proc.devRef .tc main_arg1)))) $$ [HSI Hb]
  · isplitl [HSI] <;> iassumption
  icases H with ⟨%hb, HSI, -⟩
  ihave H := (SI_pointsTo_agree (st := s') (ℓ := (SparseCore.T d).loc main_v3) (I := Finset.univ) (q := fullShare) (f := V6 m d (Proc.devRef .tc main_v3))) $$ [HSI Hr]
  · isplitl [HSI] <;> iassumption
  icases H with %hr
  ipureintro
  exact ⟨funext fun i => ha i (Finset.mem_univ i), funext fun i => hb i (Finset.mem_univ i), funext fun i => hr i (Finset.mem_univ i)⟩

/-! ## The run -/

def QC : PUnit × MemSt nD τ sig (Elt F) → Prop := fun r =>
  (∀ c : Dev nD, r.2.mem ((SparseCore.T c).loc main_arg0) = V6 m c (Proc.devRef .tc main_arg0) ∧ r.2.mem ((SparseCore.T c).loc main_arg1) = V6 m c (Proc.devRef .tc main_arg1)
    ∧ r.2.mem ((SparseCore.T c).loc main_v3) = V6 m c (Proc.devRef .tc main_v3)) ∧ r.2.sem = fun _ => 0

/-- From any launch memory whose reshaped list of rows lies in the table, the program runs to the end with its
    arguments and its result at the last valuation and every semaphore at zero. -/
theorem run_main [∀ e, Nonempty (Elt F e)] (hr : ∀ d, InRange (ibW (V4 m) d)) :
    θ_run (Cert.Rows.defs (F := F)) (Cert.Rows.threads (F := F)) ⟨m, fun _ => 0, ρ⟩ (QC m) :=
  SparseCore.Cfg.θ_run_sc_quiescent (K := K (F := F)) (D := D (F := F)) (𝒱 := 𝒱) (EH := EH) (P := P (V4 m)) (A := ∅) facts v₀
    (fun q hq => match q with | 0 => nomatch hq)
    (fun q _ => match q with | 0 => tileObl (V4 m) facts hr)
    (fun q _ => match q with | 0 => SparseCore.Cfg.VecSplit.of_plain (vecSplit (V4 m)))
    m ρ main (fun _ => iprop(emp)) (FIN m) (u₀ (F := F)) (sep_elim_left.trans (hu₀ (V4 m))) (hmain m ρ) (fq m) (hfin m) (QC m) (fun _ h hz => ⟨h, hz⟩)

end Cert.Proof.SC

end
-- ==== Proof.SC.Equal.lean ====
/-
  The gathered rows: what the row gather's program leaves is the table's rows that the list names, and so is what
  `jnp.take` leaves.
-/
module

public import proofs.«01_k».proof.Proof.SC.Launch
public import proofs.«01_k».proof.Proof.Gen.Take.Run
public import proofs.«01_k».proof.Proof.Gen.Take.Read
public import proofs.«01_k».proof.Proof.Gen.Pre_in_range
public import Idealize.ShloMosaic.Lib.Routing.Ops
public import Idealize.ShloMosaic.Lib.ReduceAll
public import Idealize.ShloMosaic.Lib.WordCmp
public import Idealize.ShloMosaic.Lib.KernelVsHost

@[expose] public section

noncomputable section

namespace Cert.Proof.SC

open Cert.Rows Cert.Rows.Gen
open Idealize.ShloMosaic
open Idealize.ShloMosaic.ValueIdx (ix1 ix2 eq_ix2)
open Idealize.SL.Sem

variable {F : FTy → Type} [FloatOps F]

/-- The rows `x1` names (row by row), out of the table `x0`. -/
def rowsOf {α : Type} (x0 : S1024x64.Idx → α) (x1 : S16x1024.Idx → BitVec 32) : S16384x64.Idx → α := fun i =>
  x0 (ix2 (rowAt (x1 (ix2 (⟨(i 0).val / 1024, by have h : (i 0).val < 16384 := (i 0).isLt; omega⟩ : Fin 16) (⟨(i 0).val % 1024, by omega⟩ : Fin 1024)))) (i 1))

/-- Every word names one of the table's 1024 rows. -/
def AllRows (x1 : S16x1024.Idx → BitVec 32) : Prop := ∀ j, (x1 j).toNat < 1024

/-! ## The kernel's side -/

variable (m : (ℓ : Loc nD τ sig) → Buf (Elt F) ℓ)

theorem V6_arg0 (d : Dev nD) : V6 m d (Proc.devRef .tc main_arg0) = m (d, Proc.devRef .tc main_arg0) := by
  unfold V6
  rw [(opSl (F := F)).result_of_not_mem _ (show (Proc.devRef .tc main_arg0 : DevRef τ sig) ∉ ({Proc.devRef .tc main_v3} : Finset (DevRef τ sig)) by decide),
    V5_ne m d (show (Proc.devRef .tc main_arg0 : DevRef τ sig) ≠ o' by decide)]
  unfold V4
  rw [(opRs (F := F)).result_of_not_mem _ (show (Proc.devRef .tc main_arg0 : DevRef τ sig) ∉ ({i'} : Finset (DevRef τ sig)) by decide),
    (opPad (F := F)).result_of_not_mem _ (show (Proc.devRef .tc main_arg0 : DevRef τ sig) ∉ ({x'} : Finset (DevRef τ sig)) by decide),
    (opCv (F := F)).result_of_not_mem _ (show (Proc.devRef .tc main_arg0 : DevRef τ sig) ∉ ({Proc.devRef .tc main_call0_v0} : Finset (DevRef τ sig)) by decide),
    (opCst (F := F)).result_of_not_mem _ (show (Proc.devRef .tc main_arg0 : DevRef τ sig) ∉ ({Proc.devRef .tc main_c} : Finset (DevRef τ sig)) by decide)]

theorem before_arg1 (d : Dev nD) :
    ((opPad (F := F)).result ((opCv (F := F)).result ((opCst (F := F)).result (V0 m d)))) (Proc.devRef .tc main_arg1) = m (d, Proc.devRef .tc main_arg1) := by
  rw [(opPad (F := F)).result_of_not_mem _ (show (Proc.devRef .tc main_arg1 : DevRef τ sig) ∉ ({x'} : Finset (DevRef τ sig)) by decide),
    (opCv (F := F)).result_of_not_mem _ (show (Proc.devRef .tc main_arg1 : DevRef τ sig) ∉ ({Proc.devRef .tc main_call0_v0} : Finset (DevRef τ sig)) by decide),
    (opCst (F := F)).result_of_not_mem _ (show (Proc.devRef .tc main_arg1 : DevRef τ sig) ∉ ({Proc.devRef .tc main_c} : Finset (DevRef τ sig)) by decide)]

theorem V6_arg1 (d : Dev nD) : V6 m d (Proc.devRef .tc main_arg1) = m (d, Proc.devRef .tc main_arg1) := by
  unfold V6
  rw [(opSl (F := F)).result_of_not_mem _ (show (Proc.devRef .tc main_arg1 : DevRef τ sig) ∉ ({Proc.devRef .tc main_v3} : Finset (DevRef τ sig)) by decide),
    V5_ne m d (show (Proc.devRef .tc main_arg1 : DevRef τ sig) ≠ o' by decide)]
  unfold V4
  rw [(opRs (F := F)).result_of_not_mem _ (show (Proc.devRef .tc main_arg1 : DevRef τ sig) ∉ ({i'} : Finset (DevRef τ sig)) by decide), before_arg1]

/-- The list the kernel reads is the program's list, reshaped. -/
theorem V4_list (d : Dev nD) :
    ibW (V4 m) d = shapeCast S128x128 (m (d, Proc.devRef .tc main_arg1) : S16x1024.Idx → BitVec 32) shapeCasts_S16x1024_S128x128 := by
  show V4 m d i' = _
  unfold V4
  rw [StableHlo.reshape_result, before_arg1]
  rfl

/-- The table the kernel reads is the program's table, padded on the right by something. -/
theorem V4_table (d : Dev nD) : ∃ v : S_.Idx → F .f32,
    tbW (V4 m) d = pad S1024x128 ![0, 0] ![0, 64] ![0, 0] (m (d, Proc.devRef .tc main_arg0) : S1024x64.Idx → F .f32) v pads_S1024x64_S1024x128_000_0640 h_S_ := by
  refine ⟨((opCv (F := F)).result ((opCst (F := F)).result (V0 m d))) (Proc.devRef .tc main_call0_v0), ?_⟩
  show V4 m d x' = _
  unfold V4
  rw [(opRs (F := F)).result_of_not_mem _ (show x' ∉ ({i'} : Finset (DevRef τ sig)) by decide)]
  refine (StableHlo.binary_result _ _ _ _ _ _ _ _).trans ?_
  have e : ((opCv (F := F)).result ((opCst (F := F)).result (V0 m d))) (Proc.devRef .tc main_arg0) = m (d, Proc.devRef .tc main_arg0) := by
    rw [(opCv (F := F)).result_of_not_mem _ (show (Proc.devRef .tc main_arg0 : DevRef τ sig) ∉ ({Proc.devRef .tc main_call0_v0} : Finset (DevRef τ sig)) by decide),
      (opCst (F := F)).result_of_not_mem _ (show (Proc.devRef .tc main_arg0 : DevRef τ sig) ∉ ({Proc.devRef .tc main_c} : Finset (DevRef τ sig)) by decide)]
  exact congrArg (fun x : S1024x64.Idx → F .f32 => pad S1024x128 ![0, 0] ![0, 64] ![0, 0] x
    (((opCv (F := F)).result ((opCst (F := F)).result (V0 m d))) (Proc.devRef .tc main_call0_v0) : S_.Idx → F .f32) pads_S1024x64_S1024x128_000_0640 h_S_) e

/-- Position `128 r + c` of the list, in its first shape. -/
theorem list_at (x1 : S16x1024.Idx → BitVec 32) (n : ℕ) (hn : n < 16384) :
    shapeCast S128x128 x1 shapeCasts_S16x1024_S128x128 (ix2 (⟨n / 128, by omega⟩ : Fin 128) (⟨n % 128, by omega⟩ : Fin 128))
      = x1 (ix2 (⟨n / 1024, by omega⟩ : Fin 16) (⟨n % 1024, by omega⟩ : Fin 1024)) := by
  refine shapeCast_apply _ _ _ _ ?_
  rw [Shape.rowMajor_val_two, Shape.rowMajor_val_two]
  show n / 1024 * 1024 + n % 1024 = n / 128 * 128 + n % 128
  omega

/-- The gather out of the padded table, by the reshaped list, cut back to the table's columns. -/
theorem slice_rows (x0 : S1024x64.Idx → F .f32) (x1 : S16x1024.Idx → BitVec 32) (v : S_.Idx → F .f32) :
    extractStridedSlice S16384x64 ![0, 0] (gatOut (pad S1024x128 ![0, 0] ![0, 64] ![0, 0] x0 v pads_S1024x64_S1024x128_000_0640 h_S_)
      (shapeCast S128x128 x1 shapeCasts_S16x1024_S128x128)) slices_S16384x128_S16384x64_0_0 = rowsOf x0 x1 := by
  funext i
  have h0 : (i 0).val < 16384 := (i 0).isLt
  have h1 : (i 1).val < 64 := (i 1).isLt
  refine (extractStridedSlice_apply _ _ _ _ (ix2 (⟨(i 0).val, h0⟩ : Fin 16384) (⟨(i 1).val, by omega⟩ : Fin 128)) ?_).trans ?_
  · intro a
    match a with
    | 0 => simp
    | 1 => simp
  · have e := list_at x1 _ h0
    refine (congrArg (fun w => pad S1024x128 ![0, 0] ![0, 64] ![0, 0] x0 v pads_S1024x64_S1024x128_000_0640 h_S_ (ix2 (rowAt w) (⟨(i 1).val, by omega⟩ : Fin 128))) e).trans ?_
    refine pad_apply_of_inside _ _ _ x0 v _ _ _ _ fun a => ?_
    match a with
    | 0 => simp
    | 1 => simp

/-- The program leaves the table's rows that its list names. -/
theorem V6_rows (d : Dev nD) :
    V6 m d (Proc.devRef .tc main_v3) = rowsOf (m (d, Proc.devRef .tc main_arg0) : S1024x64.Idx → F .f32) (m (d, Proc.devRef .tc main_arg1)) := by
  unfold V6
  rw [StableHlo.unary_result]
  have e : V5 m d (Proc.devRef .tc main_v2) = gatOut (tbW (V4 m) d) (ibW (V4 m) d) := V5_o m d
  rw [e, V4_list]
  obtain ⟨v, hv⟩ := V4_table m d
  rw [hv]
  exact slice_rows _ _ v

/-! ## The other side -/

open Cert.Take.Read in
/-- `jnp.take` of rows that are all in the table leaves those rows. -/
theorem take_rows (x0 : S1024x64.Idx → F .f32) (x1 : S16x1024.Idx → BitVec 32) (h : AllRows x1) :
    val_main_v1 (F := F) x0 x1 = rowsOf x0 x1 := by
  have word : ∀ n (hn : n < 16384), val_main_v0 (F := F) x1 (ix1 (⟨n, hn⟩ : Fin 16384)) = x1 (ix2 (⟨n / 1024, by omega⟩ : Fin 16) (⟨n % 1024, by omega⟩ : Fin 1024)) := by
    intro n hn
    refine shapeCast_apply _ _ _ _ ?_
    rw [Shape.rowMajor_val_two, Shape.rowMajor_val_one]
    show n / 1024 * 1024 + n % 1024 = n
    omega
  have small : ∀ w : BitVec 32, w.toNat < 1024 → IntOp.cmpi .slt w 0#32 = 0#1 ∧ IntOp.cmpi .sge w 0#32 = 1#1 ∧ IntOp.cmpi .sle w 1023#32 = 1#1 := by
    intro w hw
    have e : w.toInt = w.toNat := by rw [BitVec.toInt_eq_toNat_cond]; rw [if_pos (by omega)]
    refine ⟨?_, ?_, ?_⟩ <;> simp only [IntOp.cmpi, BitVec.slt_eq_decide, BitVec.sle_eq_decide, e, show (0#32).toInt = 0 from rfl, show (1023#32).toInt = 1023 from rfl]
    · rw [decide_eq_false (by omega)]; rfl
    · rw [decide_eq_true (by omega)]; rfl
    · rw [decide_eq_true (by omega)]; rfl
  have v4 : ∀ n (hn : n < 16384), val_main_call0_v4 (F := F) x1 (ix1 (⟨n, hn⟩ : Fin 16384)) = x1 (ix2 (⟨n / 1024, by omega⟩ : Fin 16) (⟨n % 1024, by omega⟩ : Fin 1024)) := by
    intro n hn
    rw [val_main_call0_v4_apply, val_main_call0_v1_apply, word n hn, val_main_call0_v0_apply, val_main_call0_c_apply, (small _ (h _)).1]
    rfl
  have v5 : ∀ n (hn : n < 16384) (k : Fin 1), val_main_call0_v5 (F := F) x1 (ix2 (⟨n, hn⟩ : Fin 16384) k) = x1 (ix2 (⟨n / 1024, by omega⟩ : Fin 16) (⟨n % 1024, by omega⟩ : Fin 1024)) := by
    intro n hn k
    rw [val_main_call0_v5_apply]
    refine Eq.trans (congrArg _ ?_) (v4 n hn)
    funext a; match a with | 0 => rfl
  have ok : ∀ j, val_main_call0_v12 (F := F) x1 j = 1#1 := by
    intro j
    have key : ∀ (n : Fin 16384) (k : Fin 1), val_main_call0_v11 (F := F) x1 (ix2 n k) = 1#1 := by
      intro n k
      rw [val_main_call0_v11_apply, val_main_call0_v7_apply, val_main_call0_v10_apply, val_main_call0_v6_apply, val_main_call0_v9_apply, val_main_call0_v8_apply,
        val_main_call0_c_2_apply, val_main_call0_c_1_apply, v5 n.val n.isLt k, (small _ (h _)).2.1, (small _ (h _)).2.2]
      rfl
    exact Host.reduce_andi_one _ _ _ _ _ rfl fun i => (congrArg _ (eq_ix2 i)).trans (key (i 0) (i 1))
  funext i
  rw [val_main_v1_apply, val_main_call0_v14_apply, ok]
  show val_main_call0_v13 (F := F) x0 x1 i = _
  have h0 : (i 0).val < 16384 := (i 0).isLt
  rw [eq_ix2 i]
  refine (Routing.gather_row _ rfl rfl rfl rfl rfl _ _ (i 0) (i 1) (rowAt (x1 (ix2 (⟨(i 0).val / 1024, by omega⟩ : Fin 16) (⟨(i 0).val % 1024, by omega⟩ : Fin 1024)))) ?_ (by decide)).trans rfl
  refine (v5 _ h0 0).trans (BitVec.eq_of_toNat_eq ?_)
  rw [BitVec.toNat_ofNat]
  have := h (ix2 (⟨(i 0).val / 1024, by omega⟩ : Fin 16) (⟨(i 0).val % 1024, by omega⟩ : Fin 1024))
  show _ = _ % 1024 % _
  omega

/-! ## The precondition -/

/-- The claims' precondition says that every word of the list names a row of the table. -/
theorem allRows_of_pre (x0 : S1024x64.Idx → F .f32) (x1 : S16x1024.Idx → BitVec 32) (h : Cert.Pre_in_range.fn (F := F) x0 x1 = fun _ => 1#1) : AllRows x1 := by
  intro j
  have e := congrFun h (fun a => a.elim0)
  have e := Host.reduce_andi_eq_one _ _ _ _ _ e j (funext fun a => a.elim0)
  have e' : IntOp.andi (IntOp.cmpi .sge (x1 j) 0#32) (IntOp.cmpi .slt (x1 j) 1024#32) = 1#1 := e
  have b1 : ∀ p : Bool, (BitVec.ofBool p = 1#1) ↔ p = true := by decide
  simp only [IntOp.cmpi, WordCmp.andi_ofBool, b1, Bool.and_eq_true, BitVec.sle_eq_decide, BitVec.slt_eq_decide,
    decide_eq_true_eq, BitVec.toInt_eq_toNat_cond, BitVec.toNat_ofNat, Nat.reducePow, Nat.reduceMod] at e'
  omega

theorem inRange_of (d : Dev nD) (h : AllRows (m (d, Proc.devRef .tc main_arg1))) : InRange (ibW (V4 m) d) := by
  intro j
  rw [V4_list]
  exact h _

/-! ## The two programs -/

variable (ρ : Dev nD → PrngReg)

/-- The row gather's program leaves the rows its list names, its arguments as they were and its semaphores at zero. -/
theorem rows_run [∀ e, Nonempty (Elt F e)] (h : ∀ d : Dev nD, AllRows (m (d, Proc.devRef .tc main_arg1))) :
    θ_run (Cert.Rows.defs (F := F)) (Cert.Rows.threads (F := F)) ⟨m, fun _ => 0, ρ⟩ (fun r =>
      (∀ c : Dev nD, r.2.mem ((c.tc : Thread nD τ).loc main_v3) = rowsOf (m (c, Proc.devRef .tc main_arg0) : S1024x64.Idx → F .f32) (m (c, Proc.devRef .tc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run Cert.Rows.defs _ _).mono
    (fun _ hq => ⟨fun c => ⟨(hq.1 c).2.2.trans (V6_rows m c), (hq.1 c).1.trans (V6_arg0 m c), (hq.1 c).2.1.trans (V6_arg1 m c)⟩, hq.2⟩)
    (run_main m ρ fun d => inRange_of m d (h d))

/-- `jnp.take`'s program leaves the rows its list names, and its arguments as they were. -/
theorem take_run (m' : (ℓ : Loc Cert.Take.nD Cert.Take.τ Cert.Take.sig) → Buf (Elt F) ℓ) (ρ' : Dev Cert.Take.nD → PrngReg)
    (h : ∀ d : Dev Cert.Take.nD, AllRows (m' ((d.tc : Thread Cert.Take.nD Cert.Take.τ).loc Cert.Take.main_arg1))) :
    θ_run (Cert.Take.defs (F := F)) (onTc (τ := Cert.Take.τ) (Cert.Take.main (F := F))) ⟨m', fun _ => 0, ρ'⟩ (fun r => ∀ c : Dev Cert.Take.nD,
      r.2.mem ((c.tc : Thread Cert.Take.nD Cert.Take.τ).loc Cert.Take.main_v1)
          = rowsOf (m' ((c.tc : Thread Cert.Take.nD Cert.Take.τ).loc Cert.Take.main_arg0) : S1024x64.Idx → F .f32) (m' ((c.tc : Thread Cert.Take.nD Cert.Take.τ).loc Cert.Take.main_arg1))
        ∧ r.2.mem ((c.tc : Thread Cert.Take.nD Cert.Take.τ).loc Cert.Take.main_arg0) = m' ((c.tc : Thread Cert.Take.nD Cert.Take.τ).loc Cert.Take.main_arg0)
        ∧ r.2.mem ((c.tc : Thread Cert.Take.nD Cert.Take.τ).loc Cert.Take.main_arg1) = m' ((c.tc : Thread Cert.Take.nD Cert.Take.τ).loc Cert.Take.main_arg1)) :=
  (θ_run Cert.Take.defs _ _).mono
    (fun _ hq c => ⟨(hq c).1.trans ((Cert.Take.Read.val_main_v1_eq _ _).trans (take_rows _ _ (h c))), (hq c).2⟩)
    (Cert.Take.Value.run m' ρ')

end Cert.Proof.SC

end
-- ==== Proof.SC.Claims.lean ====
/-
  The claims about the row gather: its frame, and that it leaves what `jnp.take` leaves, over any float values.
-/
module

public import proofs.«01_k».proof.Proof.SC.Equal
public import proofs.«01_k».proof.Proof.Gen.RowsIdeal
public import proofs.«01_k».proof.Proof.Gen.TakeIdeal
public import proofs.«01_k».proof.Proof.Gen.Take
public import proofs.«01_k».proof.Defs

@[expose] public section

noncomputable section

namespace Cert.Proof.SC

open Idealize.ShloMosaic Idealize.SL.Sem

/-- The row gather, at the bit level: it ends, with its arguments as they were and every semaphore at zero. -/
theorem frame_rows : Cert.quiescent_Rows := fun m ρ hpre =>
  (θ_run Cert.Rows.defs _ _).mono (fun _ h => ⟨fun c => (h.1 c).2, h.2⟩)
    (rows_run (F := Bits) m ρ fun d => allRows_of_pre _ _ (hpre d))

set_option maxRecDepth 65536 in
/-- The same over the extended reals. -/
theorem frame_rows_ideal : Cert.quiescent_RowsIdeal := fun m ρ hpre =>
  (θ_run Cert.Rows.defs _ _).mono (fun _ h => ⟨fun c => (h.1 c).2, h.2⟩)
    (rows_run (F := Ideal) m ρ fun d => allRows_of_pre _ _ (hpre d))

/-- `jnp.take`, at the bit level: it ends, with its arguments as they were. -/
theorem frame_take : Cert.quiescent_Take := fun m ρ hpre =>
  (θ_run Cert.Take.defs _ _).mono (fun r h => ⟨fun c => (h c).2, sem_eq_zero_of_no_sems (by decide) r.2⟩)
    (take_run (F := Bits) m ρ fun d => allRows_of_pre _ _ (hpre d))

set_option maxRecDepth 65536 in
/-- The same over the extended reals, for any list. -/
theorem frame_take_ideal : Cert.quiescent_TakeIdeal := fun m ρ _ =>
  (θ_run Cert.Take.defs _ _).mono (fun r h => ⟨fun c => (h c).2, sem_eq_zero_of_no_sems (by decide) r.2⟩)
    (Cert.Take.Value.run (F := Ideal) m ρ)

theorem frame_take_ideal_pre : Cert.quiescent_TakeIdeal_pre_in_range := fun m ρ _ => frame_take_ideal m ρ (by trivial)

/-- The row gather leaves what `jnp.take` leaves, bit for bit, where the list lies in the table. -/
theorem rows_take : Cert.bitexact_Rows_Take := fun m g m' g' hpre hag =>
  ⟨fun c => rowsOf (m ((c.tc : Thread Cert.Rows.nD Cert.Rows.τ).loc Cert.Rows.main_arg0)) (m ((c.tc : Thread Cert.Rows.nD Cert.Rows.τ).loc Cert.Rows.main_arg1)),
    (θ_run Cert.Rows.defs _ _).mono (fun _ h => h.1) (rows_run (F := Bits) m g fun d => allRows_of_pre _ _ (hpre d)),
    (θ_run Cert.Take.defs _ _).mono
      (fun _ h c => ⟨(h c).1.trans (congrArg₂ rowsOf (hag c).1 (hag c).2), (h c).2⟩)
      (take_run (F := Bits) m' g' fun d => by rw [(hag d).2]; exact allRows_of_pre _ _ (hpre d))⟩

set_option maxRecDepth 65536 in
/-- The row gather leaves what `jnp.take` leaves over the extended reals, where the list lies in the table. -/
theorem rows_take_ideal : Cert.algebraic_RowsIdeal_TakeIdeal := fun m g m' g' hpre hag =>
  ⟨fun c => rowsOf (m ((c.tc : Thread Cert.Rows.nD Cert.Rows.τ).loc Cert.Rows.main_arg0)) (m ((c.tc : Thread Cert.Rows.nD Cert.Rows.τ).loc Cert.Rows.main_arg1)),
    (θ_run Cert.Rows.defs _ _).mono (fun _ h => h.1) (rows_run (F := Ideal) m g fun d => allRows_of_pre _ _ (hpre d)),
    (θ_run Cert.Take.defs _ _).mono
      (fun _ h c => ⟨(h c).1.trans (congrArg₂ rowsOf (hag c).1 (hag c).2), (h c).2⟩)
      (take_run (F := Ideal) m' g' fun d => by rw [show m' _ = _ from (hag d).2]; exact allRows_of_pre _ _ (hpre d))⟩

end Cert.Proof.SC

end
-- ==== Proof.Search.Math.lean ====
/-
  The mathematics of the nearest row: squared distances over the reals, the first row that is nearest, and the folds by
  which the two programs find it.
-/
module

public import Idealize.ShloMosaic.Lib.Pointwise
public import Idealize.ShloMosaic.Lib.IdealHost
public import Idealize.ShloMosaic.Lib.WordCmp

@[expose] public section

noncomputable section

namespace Cert.Proof.Search

open Idealize.ShloMosaic

/-! ## Sums of real numbers among the extended reals -/

/-- A sum of real numbers, as an extended real, is the sum of them as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The squared distance of two rows of 64 numbers. -/
def sqDist (a b : Fin 64 → ℝ) : ℝ := ∑ d, (a d - b d) ^ 2

/-- The squared distance as the kernel expands it: the middle term by one factor scaled by minus two. -/
theorem sqDist_scaled (a b : Fin 64 → ℝ) :
    ((∑ d, (a d : EReal) * a d) + ∑ d, (a d : EReal) * ((-2 : ℝ) : EReal) * b d) + ∑ d, (b d : EReal) * b d = ((sqDist a b : ℝ) : EReal) := by
  simp only [← EReal.coe_mul, ← coe_sum, ← EReal.coe_add]
  rw [sqDist, ← Finset.sum_add_distrib, ← Finset.sum_add_distrib]
  exact congrArg _ (Finset.sum_congr rfl fun d _ => by ring)

/-- The squared distance as the reference expands it: twice the inner product subtracted. -/
theorem sqDist_expanded (a b : Fin 64 → ℝ) :
    ((∑ d, (a d : EReal) * a d) - ((2 : ℝ) : EReal) * ∑ d, (a d : EReal) * b d) + ∑ d, (b d : EReal) * b d = ((sqDist a b : ℝ) : EReal) := by
  simp only [← EReal.coe_mul, ← coe_sum, ← EReal.coe_add, ← EReal.coe_sub]
  rw [sqDist, Finset.mul_sum, ← Finset.sum_sub_distrib, ← Finset.sum_add_distrib]
  exact congrArg _ (Finset.sum_congr rfl fun d _ => by ring)

/-- The sum of the squared differences, taken among the extended reals. -/
theorem sqDist_diff (a b : Fin 64 → ℝ) : ∑ d, ((a d : EReal) - b d) * ((a d : EReal) - b d) = ((sqDist a b : ℝ) : EReal) := by
  simp only [← EReal.coe_mul, ← coe_sum, ← EReal.coe_sub]
  exact congrArg _ (Finset.sum_congr rfl fun d _ => by ring)

/-! ## The first place of a least value -/

theorem least_nonempty (f : Fin 1024 → ℝ) : (Finset.univ.filter fun k => ∀ j, f k ≤ f j).Nonempty := by
  obtain ⟨k, -, hk⟩ := Finset.exists_min_image Finset.univ f ⟨0, Finset.mem_univ _⟩
  exact ⟨k, Finset.mem_filter.mpr ⟨Finset.mem_univ _, fun j => hk j (Finset.mem_univ _)⟩⟩

/-- The first place at which `f` takes its least value. -/
def best (f : Fin 1024 → ℝ) : Fin 1024 := (Finset.univ.filter fun k => ∀ j, f k ≤ f j).min' (least_nonempty f)

/-- There `f` is least. -/
theorem best_le (f : Fin 1024 → ℝ) (j : Fin 1024) : f (best f) ≤ f j :=
  (Finset.mem_filter.mp (Finset.min'_mem _ (least_nonempty f))).2 j

/-- Every place of the least value comes no earlier. -/
theorem best_first (f : Fin 1024 → ℝ) (k : Fin 1024) (h : f k ≤ f (best f)) : best f ≤ k :=
  Finset.min'_le _ _ (Finset.mem_filter.mpr ⟨Finset.mem_univ _, fun j => h.trans (best_le f j)⟩)

/-- A place of the least value that comes no later than any other is that one. -/
theorem eq_best (f : Fin 1024 → ℝ) (k : Fin 1024) (h : ∀ j, f k < f j ∨ f k = f j ∧ k ≤ j) : k = best f := by
  have hk : ∀ j, f k ≤ f j := fun j => (h j).elim le_of_lt fun e => le_of_eq e.1
  refine le_antisymm ?_ (best_first f k (hk _))
  rcases h (best f) with h | h
  · exact absurd (best_le f k) (not_le.mpr h)
  · exact h.2

/-- The least of the values by a fold of `min` from infinity is the value there. -/
theorem fold_min_eq (f : Fin 1024 → ℝ) : Finset.univ.fold min (⊤ : EReal) (fun k => (f k : EReal)) = (f (best f) : EReal) := by
  apply le_antisymm
  · exact Finset.fold_min_le _ |>.mpr (.inr ⟨best f, Finset.mem_univ _, le_rfl⟩)
  · exact Finset.le_fold_min _ |>.mpr ⟨le_top, fun k _ => EReal.coe_le_coe_iff.mpr (best_le f k)⟩

/-! ## The least of a list of words -/

/-- The signed value of a fold of the signed minimum is the fold of `min` of the signed values. -/
theorem toInt_fold_minsi {ι : Type*} (S : Finset ι) (b : BitVec 32) (w : ι → BitVec 32) :
    (S.fold IntOp.minsi b w).toInt = S.fold min b.toInt fun k => (w k).toInt := by
  classical
  induction S using Finset.induction_on with
  | empty => simp
  | insert a S h ih =>
    rw [Finset.fold_insert h, Finset.fold_insert h, ← ih]
    simp only [IntOp.minsi, BitVec.slt_eq_decide, decide_eq_true_eq]
    split_ifs with hlt <;> omega

theorem toInt_index (k : Fin 1024) : (BitVec.ofNat 32 k.val).toInt = k.val := by
  have := k.isLt
  rw [BitVec.toInt_eq_toNat_cond, BitVec.toNat_ofNat, Nat.mod_eq_of_lt (by omega), if_pos (by omega)]

/-- The kernel's search: the least, over all places, of the place's own number where the value is the least one and of 1024
    elsewhere, is the number of the first place of the least value. -/
theorem fold_minsi_eq (f : Fin 1024 → ℝ) :
    Finset.univ.fold IntOp.minsi 2147483647#32 (fun k : Fin 1024 => if (f k : EReal) = (f (best f) : EReal) then BitVec.ofNat 32 k.val else 1024#32)
      = BitVec.ofNat 32 (best f).val := by
  apply BitVec.eq_of_toInt_eq
  have hb := (best f).isLt
  rw [toInt_fold_minsi, toInt_index]
  apply le_antisymm
  · refine Finset.fold_min_le _ |>.mpr (.inr ⟨best f, Finset.mem_univ _, ?_⟩)
    rw [if_pos rfl, toInt_index]
  · refine Finset.le_fold_min _ |>.mpr ⟨?_, fun k _ => ?_⟩
    · rw [show (2147483647#32).toInt = 2147483647 from rfl]; omega
    · split_ifs with e
      · rw [toInt_index]
        have := best_first f k (le_of_eq (EReal.coe_eq_coe_iff.mp e))
        exact_mod_cast this
      · rw [show (1024#32).toInt = 1024 from rfl]; omega

/-! ## The least of a list of pairs -/

/-- A pair of a value and a number comes no later than another: its value is less, or is the same and its number is no
    greater. -/
def NoLater (p q : EReal × BitVec 32) : Prop := p.1 < q.1 ∨ p.1 = q.1 ∧ p.2.toInt ≤ q.2.toInt

theorem NoLater.refl (p : EReal × BitVec 32) : NoLater p p := .inr ⟨rfl, le_rfl⟩
theorem NoLater.trans {p q r : EReal × BitVec 32} (h : NoLater p q) (h' : NoLater q r) : NoLater p r := by
  rcases h with h | ⟨e, h⟩ <;> rcases h' with h' | ⟨e', h'⟩
  · exact .inl (h.trans h')
  · exact .inl (e' ▸ h)
  · exact .inl (e ▸ h')
  · exact .inr ⟨e.trans e', h.trans h'⟩

/-- A fold that keeps, of two pairs, one that comes no later than either, ends with one of the pairs it met, and that one comes
    no later than any of them. -/
theorem foldl_noLater (r : EReal × BitVec 32 → EReal × BitVec 32 → EReal × BitVec 32)
    (hr : ∀ a b, (r a b = a ∨ r a b = b) ∧ NoLater (r a b) a ∧ NoLater (r a b) b) :
    ∀ (L : List (EReal × BitVec 32)) (a : EReal × BitVec 32),
      (L.foldl r a = a ∨ L.foldl r a ∈ L) ∧ NoLater (L.foldl r a) a ∧ ∀ p ∈ L, NoLater (L.foldl r a) p
  | [], a => ⟨.inl rfl, .refl a, fun p hp => absurd hp List.not_mem_nil⟩
  | b :: L, a => by
    obtain ⟨h1, h2, h3⟩ := foldl_noLater r hr L (r a b)
    obtain ⟨g1, g2, g3⟩ := hr a b
    refine ⟨?_, h2.trans g2, fun p hp => ?_⟩
    · rcases h1 with h1 | h1
      · rcases g1 with g1 | g1
        · exact .inl (h1.trans g1)
        · exact .inr (List.mem_cons.mpr (.inl (h1.trans g1)))
      · exact .inr (List.mem_cons.mpr (.inr h1))
    · rcases List.mem_cons.mp hp with rfl | hp
      · exact h2.trans g3
      · exact h3 p hp

/-- Such a fold over the pairs of all 1024 values and their numbers, from the pair of infinity and anything, ends with the
    number of the first place of the least value. -/
theorem foldl_best (r : EReal × BitVec 32 → EReal × BitVec 32 → EReal × BitVec 32)
    (hr : ∀ a b, (r a b = a ∨ r a b = b) ∧ NoLater (r a b) a ∧ NoLater (r a b) b) (f : Fin 1024 → ℝ) (L : List (EReal × BitVec 32))
    (hL : ∀ p, p ∈ L ↔ ∃ k : Fin 1024, p = ((f k : EReal), BitVec.ofNat 32 k.val)) (w : BitVec 32) :
    (L.foldl r (⊤, w)).2 = BitVec.ofNat 32 (best f).val := by
  obtain ⟨h1, h2, h3⟩ := foldl_noLater r hr L (⊤, w)
  have h0 := h3 _ ((hL _).mpr ⟨0, rfl⟩)
  have hm : L.foldl r (⊤, w) ∈ L := by
    rcases h1 with h1 | h1
    · rw [h1] at h0
      rcases h0 with h0 | ⟨h0, -⟩
      · exact absurd h0 not_top_lt
      · exact absurd h0.symm (EReal.coe_ne_top _)
    · exact h1
  obtain ⟨k, hk⟩ := (hL _).mp hm
  rw [hk] at h3 ⊢
  show BitVec.ofNat 32 k.val = _
  refine congrArg (fun k : Fin 1024 => BitVec.ofNat 32 k.val) (eq_best f k fun j => ?_)
  rcases h3 _ ((hL _).mpr ⟨j, rfl⟩) with h | ⟨h, h'⟩
  · exact .inl (EReal.coe_lt_coe_iff.mp h)
  · refine .inr ⟨EReal.coe_eq_coe_iff.mp h, ?_⟩
    have h' : (BitVec.ofNat 32 k.val).toInt ≤ (BitVec.ofNat 32 j.val).toInt := h'
    rw [toInt_index, toInt_index] at h'
    exact_mod_cast h'

/-! ## The constants -/

theorem word_top : Ideal.ofBits .f32 0x7F800000#32 = ⊤ := by simp [Ideal.ofBits, Ideal.ieee]

theorem word_neg_two : Ideal.ofBits .f32 0xC0000000#32 = ((-2 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_count : Ideal.ofBits .f32 0x49800000#32 = ((1048576 : ℝ) : EReal) := by
  simp [Ideal.ofBits, Ideal.ieee, -EReal.coe_mul]; norm_num

theorem word_beta : Ideal.ofBits .f32 0x3CCCCCCD#32 = ((13421773 / 536870912 : ℝ) : EReal) := by
  simp [Ideal.ofBits, Ideal.ieee, -EReal.coe_mul]; norm_num

/-- The reference's loss — the mean of the squares and a part of it once more — is the sum of the squares by one factor. -/
theorem loss_eq (e : ℝ) :
    Ideal.div (e : EReal) ((1048576 : ℝ) : EReal) + ((13421773 / 536870912 : ℝ) : EReal) * Ideal.div (e : EReal) ((1048576 : ℝ) : EReal)
      = ((e * (550292685 / 562949953421312) : ℝ) : EReal) := by
  rw [Ideal.div_coe (by norm_num)]
  simp only [← EReal.coe_mul, ← EReal.coe_add]
  exact congrArg _ (by ring)

/-! ## The rows of the two arguments -/

/-- Every entry is a real number. -/
def AllReal {s : Shape} (x : s.Idx → EReal) : Prop := ∀ i, x i = ((x i).toReal : EReal)

/-- Row `n` of the first argument, its two leading axes taken as one. -/
def zRow (x0 : (⟨3, ![16, 1024, 64]⟩ : Shape).Idx → EReal) (n : Fin 16384) (d : Fin 64) : ℝ :=
  (x0 (ix3 (⟨n.val / 1024, by omega⟩ : Fin 16) (⟨n.val % 1024, by omega⟩ : Fin 1024) d)).toReal

/-- Row `k` of the table. -/
def cRow (x1 : (⟨2, ![1024, 64]⟩ : Shape).Idx → EReal) (k : Fin 1024) (d : Fin 64) : ℝ := (x1 (ix2 k d)).toReal

variable (x0 : (⟨3, ![16, 1024, 64]⟩ : Shape).Idx → EReal) (x1 : (⟨2, ![1024, 64]⟩ : Shape).Idx → EReal)

/-- The squared distance of row `n` of the first argument and row `k` of the table. -/
def score (n : Fin 16384) (k : Fin 1024) : ℝ := sqDist (zRow x0 n) (cRow x1 k)

/-- The first row of the table that is nearest to row `n`. -/
def nearest (n : Fin 16384) : Fin 1024 := best (score x0 x1 n)

/-- The sum, over all rows, of the squared distance to the nearest row of the table. -/
def total : ℝ := ∑ n : Fin 16384, score x0 x1 n (nearest x0 x1 n)

/-- The loss: that sum by one factor. -/
def lossOf : EReal := ((total x0 x1 * (550292685 / 562949953421312) : ℝ) : EReal)

end Cert.Proof.Search

end
-- ==== Proof.Search.KernelPay.lean ====
/-
  What the kernel's body computes of one block of rows, read at an index: the distances, the least one of each row, its first
  place, and the share of the loss.
-/
module

public import proofs.«01_k».proof.Proof.Gen.KernelIdeal.Frame
public import proofs.«01_k».proof.Proof.Search.Math

@[expose] public section

noncomputable section

namespace Cert.Proof.Search.Kernel

open Cert.KernelIdeal Cert.KernelIdeal.Gen
open Idealize.ShloMosaic

variable (v0 : FVec Ideal S4096x64 .f32) (v2 : FVec Ideal S1024x64 .f32) (a : Fin 4096 → Fin 64 → ℝ) (b : Fin 1024 → Fin 64 → ℝ)

/-- The first row that is nearest to row `i`. -/
abbrev near (i : Fin 4096) : Fin 1024 := best fun k => sqDist (a i) (b k)

/-- The matrix of distances. -/
theorem pay1_apply (ha : ∀ i d, v0 (ix2 i d) = ((a i d : ℝ) : EReal)) (hb : ∀ k d, v2 (ix2 k d) = ((b k d : ℝ) : EReal)) (i : Fin 4096) (k : Fin 1024) :
    k0_pay1 (F := Ideal) v0 v2 (ix2 i k) = ((sqDist (a i) (b k) : ℝ) : EReal) := by
  pointwise [k0_pay1]
  simp only [ha, hb]
  rw [show Ideal.ofBits FTy.f32 3221225472#32 = ((-2 : ℝ) : EReal) from word_neg_two]
  exact sqDist_scaled _ _

/-- The least distance of each row. -/
theorem pay2_apply (ha : ∀ i d, v0 (ix2 i d) = ((a i d : ℝ) : EReal)) (hb : ∀ k d, v2 (ix2 k d) = ((b k d : ℝ) : EReal)) (i : Fin 4096) (z : Fin 1) :
    k0_pay2 (F := Ideal) v0 v2 (ix2 i z) = ((sqDist (a i) (b (near a b i)) : ℝ) : EReal) := by
  pointwise [k0_pay2]
  simp only [pay1_apply v0 v2 a b ha hb]
  rw [show Ideal.ofBits FTy.f32 2139095040#32 = ⊤ from word_top]
  exact fold_min_eq _

/-- Its first place. -/
theorem pay3_apply (ha : ∀ i d, v0 (ix2 i d) = ((a i d : ℝ) : EReal)) (hb : ∀ k d, v2 (ix2 k d) = ((b k d : ℝ) : EReal)) (i : Fin 4096) (y z : Fin 1) :
    k0_pay3 (F := Ideal) v0 v2 (ix3 y z i) = BitVec.ofNat 32 (near a b i).val := by
  pointwise [k0_pay3]
  simp only [pay1_apply v0 v2 a b ha hb, pay2_apply v0 v2 a b ha hb]
  exact fold_minsi_eq _

/-- The constant zero. -/
theorem pay4_apply (j : S1x1.Idx) : k0_pay4 (F := Ideal) j = 0 := by
  show Ideal.ofBits .f32 0x00000000#32 = 0
  simp [Ideal.ofBits, Ideal.ieee]

/-- The share of the loss, added to what there is. -/
theorem pay5_apply (ha : ∀ i d, v0 (ix2 i d) = ((a i d : ℝ) : EReal)) (hb : ∀ k d, v2 (ix2 k d) = ((b k d : ℝ) : EReal)) (x : FVec Ideal S1x1 .f32) (j : S1x1.Idx) :
    k0_pay5 (F := Ideal) v0 v2 x j
      = x j + ((∑ i : Fin 4096, sqDist (a i) (b (near a b i)) : ℝ) : EReal) * ((550292685 / 562949953421312 : ℝ) : EReal) := by
  have key : ∀ y z : Fin 1, k0_pay5 (F := Ideal) v0 v2 x (ix2 y z)
      = x (ix2 y z) + ((∑ i : Fin 4096, sqDist (a i) (b (near a b i)) : ℝ) : EReal) * ((550292685 / 562949953421312 : ℝ) : EReal) := by
    intro y z
    pointwise [k0_pay5]
    simp only [pay2_apply v0 v2 a b ha hb, coe_sum]
    rfl
  have e : j = ix2 (⟨0, by decide⟩ : Fin 1) (⟨0, by decide⟩ : Fin 1) := by
    funext q
    exact Fin.ext (match q with
      | (0 : Fin 2) => Nat.lt_one_iff.mp (j 0).isLt
      | (1 : Fin 2) => Nat.lt_one_iff.mp (j 1).isLt)
  rw [e]
  exact key _ _

end Cert.Proof.Search.Kernel

end
-- ==== Proof.Search.KernelValue.lean ====
/-
  What the kernel's arrays hold after its run: the list of the nearest rows and the loss.
-/
module

public import proofs.«01_k».proof.Proof.Search.KernelPay
public import Idealize.ShloMosaic.Lib.Pipeline.ValueKit

@[expose] public section

noncomputable section

namespace Cert.Proof.Search.Kernel

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (c : Dev nD)

/-- The first argument. -/
abbrev arg0 : S16x1024x64.Idx → EReal := m ((c : Thread nD τ).loc main_arg0)
/-- The table. -/
abbrev arg1 : S1024x64.Idx → EReal := m ((c : Thread nD τ).loc main_arg1)

theorem N_eq : cfg0.N = 4 := N_0

theorem row_lt (t : Fin cfg0.N) (i : Fin 4096) : t.val * 4096 + i.val < 16384 := by
  have ht : t.val < 4 := lt_of_lt_of_eq t.isLt N_eq
  omega

/-- Row `i` of block `t`, among all the rows. -/
def rowIn (t : Fin cfg0.N) (i : Fin 4096) : Fin 16384 := ⟨t.val * 4096 + i.val, row_lt t i⟩

/-- Where each window's block lies, point by point. -/
theorem idx : ∀ t : Fin cfg0.N, win0_0.index t = ![t.val, 0] ∧ win0_1.index t = ![0, 0] ∧ win0_2.index t = ![t.val, 0, 0] ∧ win0_3.index t = ![0, 0] :=
  (by decide +kernel : ∀ t : Fin grid0.N, _)

/-- The rows the kernel reads are those of the first argument, its two leading axes taken as one. -/
theorem V_main_v0 : V m c main_v0 = shapeCast S16384x64 (arg0 m c) shapeCasts_S16x1024x64_S16384x64 := by
  show StableHlo.after [StableHlo.reshape main_arg0 main_v0 (rfl : (.f32 : EltTy) = .f32) shapeCasts_S16x1024x64_S16384x64] _ _ = _
  after_results <;> rfl

/-- Row `i` of block `t`. -/
theorem block0 (h0 : AllReal (arg0 m c)) (t : Fin cfg0.N) (i : Fin 4096) (d : Fin 64) :
    (iblk m c 0 t : S4096x64.Idx → EReal) (ix2 i d) = ((zRow (arg0 m c) (rowIn t i) d : ℝ) : EReal) := by
  have e : (iblk m c 0 t : S4096x64.Idx → EReal) (ix2 i d) = (V m c main_v0 : S16384x64.Idx → EReal) (ix2 (⟨t.val * 4096 + i.val, row_lt t i⟩ : Fin 16384) d) := by
    blk_ext [iblk, idx t]
  refine e.trans (Eq.trans ?_ (h0 _))
  rw [V_main_v0]
  refine shapeCast_apply _ _ _ _ ?_
  rw [ix2_eq_valueIdx, ix3_eq_valueIdx, Shape.rowMajor_val_two, Shape.rowMajor_val_three]
  show ((t.val * 4096 + i.val) / 1024 * 1024 + (t.val * 4096 + i.val) % 1024) * 64 + d.val = (t.val * 4096 + i.val) * 64 + d.val
  omega

/-- The table, at every point. -/
theorem block1 (h1 : AllReal (arg1 m c)) (t : Fin cfg0.N) (k : Fin 1024) (d : Fin 64) :
    (iblk m c 1 t : S1024x64.Idx → EReal) (ix2 k d) = ((cRow (arg1 m c) k d : ℝ) : EReal) := by
  refine Eq.trans ?_ (h1 _)
  blk_ext! [iblk, V, idx t]

/-- What point `t` leaves in its block of the list. -/
theorem out2 (h0 : AllReal (arg0 m c)) (h1 : AllReal (arg1 m c)) (t : Fin cfg0.N) (y z : Fin 1) (i : Fin 4096) :
    (outsAt0 m c t.val t.isLt).1 (ix3 y z i) = BitVec.ofNat 32 (nearest (arg0 m c) (arg1 m c) (rowIn t i)).val := by
  have p := pay3_apply _ _ _ _ (block0 m c h0 t) (block1 m c h1 t) i y z
  by_cases h : t.val % 4 = 0
  · rw [outsAt0_A m c t h]
    frame_out
    exact p
  · rw [outsAt0_B m c t h]
    frame_out
    exact p

/-- The same, at any index of the block. -/
theorem out2_at (h0 : AllReal (arg0 m c)) (h1 : AllReal (arg1 m c)) (t : Fin cfg0.N) (y : S1x1x4096.Idx) :
    (outsAt0 m c t.val t.isLt).1 y = BitVec.ofNat 32 (nearest (arg0 m c) (arg1 m c) (rowIn t ⟨(y 2).val, (y 2).isLt⟩)).val := by
  have e : y = ix3 (⟨0, by decide⟩ : Fin 1) (⟨0, by decide⟩ : Fin 1) (⟨(y 2).val, (y 2).isLt⟩ : Fin 4096) := by
    funext q
    exact Fin.ext (match q with
      | (0 : Fin 3) => Nat.lt_one_iff.mp (y 0).isLt
      | (1 : Fin 3) => Nat.lt_one_iff.mp (y 1).isLt
      | (2 : Fin 3) => rfl)
  exact (congrArg (outsAt0 m c t.val t.isLt).1 e).trans (out2 m c h0 h1 t _ _ _)

theorem place_lt (y : S4x1x4096.Idx) : (y 0).val * 4096 + (y 2).val < 16384 := by
  have h0 : (y 0).val < 4 := (y 0).isLt
  have h2 : (y 2).val < 4096 := (y 2).isLt
  omega

/-- The list of the nearest rows, as the kernel leaves it. -/
theorem places (h0 : AllReal (arg0 m c)) (h1 : AllReal (arg1 m c)) :
    (dats m 0 c).arrAt 2 cfg0.N = fun y : S4x1x4096.Idx =>
      BitVec.ofNat 32 (nearest (arg0 m c) (arg1 m c) ⟨(y 0).val * 4096 + (y 2).val, place_lt y⟩).val := by
  refine (dats m 0 c).arrAt_eq_of_covers 2 _ (by decide +kernel) fun t hf y => ?_
  blk_simp
  rw [after0_2]
  refine (out2_at m c h0 h1 t y).trans (congrArg (fun n => BitVec.ofNat 32 (nearest (arg0 m c) (arg1 m c) n).val) (Fin.ext ?_))
  show t.val * 4096 + (y 2).val = win0_2.index t 0 * 4096 + (win0_2.index t 2 * 4096 + (y 2).val)
  rw [(idx t).2.2.1]
  show t.val * 4096 + (y 2).val = t.val * 4096 + (0 * 4096 + (y 2).val)
  omega

/-- The share of the loss that point `t` adds. -/
def share (x0 : S16x1024x64.Idx → EReal) (x1 : S1024x64.Idx → EReal) (t : Fin cfg0.N) : EReal :=
  ((∑ i : Fin 4096, score x0 x1 (rowIn t i) (nearest x0 x1 (rowIn t i)) : ℝ) : EReal) * ((550292685 / 562949953421312 : ℝ) : EReal)

theorem shares (x0 : S16x1024x64.Idx → EReal) (x1 : S1024x64.Idx → EReal) : ∑ t : Fin cfg0.N, share x0 x1 t = lossOf x0 x1 := by
  have e : ∑ t : Fin cfg0.N, ∑ i : Fin 4096, score x0 x1 (rowIn t i) (nearest x0 x1 (rowIn t i)) = total x0 x1 :=
    Fin.sum_mul_add_congr (f := fun n : Fin 16384 => score x0 x1 n (nearest x0 x1 n)) (fun t i hl => rfl) (by rw [N_eq])
  simp only [share, ← EReal.coe_mul, ← coe_sum, ← Finset.sum_mul]
  rw [e, lossOf]

/-- The loss, as the kernel leaves it. -/
theorem losses (h0 : AllReal (arg0 m c)) (h1 : AllReal (arg1 m c)) :
    (dats m 0 c).arrAt 3 cfg0.N = fun _ : S1x1.Idx => lossOf (arg0 m c) (arg1 m c) := by
  refine (dats m 0 c).arrAt_eq_of_after_last 3 ⟨3, by rw [N_eq]; decide⟩ (by decide +kernel) _ fun y => ?_
  have p := fun (t : Fin cfg0.N) => pay5_apply _ _ _ _ (block0 m c h0 t) (block1 m c h1 t)
  have s := Pipeline.eq_sum_fin_of_reset_step_apply_last (fun n h => (outsAt0 m c n h).2) 4 (fun _ => 0) (fun t _ => share (arg0 m c) (arg1 m c) t)
    (fun t h j => by
      rw [outsAt0_A m c t h]
      frame_out
      rw [p t, pay4_apply]
      rfl)
    (fun t h j => by
      rw [outsAt0_B m c t h]
      frame_out
      exact p t _ j) (le_of_eq N_eq) ⟨3, by rw [N_eq]; decide⟩ rfl
  rw [after0_3]
  refine (s _).trans ?_
  rw [shares, zero_add]

end Cert.Proof.Search.Kernel

end
-- ==== Proof.Search.RefRun.lean ====
/-
  The run of the reference: its operations in four lines — the distances, the place of the least one, the rows at those
  places, the loss — and what its results hold once they have run.
-/
module

public import proofs.«01_k».proof.Proof.Gen.ReferenceIdeal
public import Idealize.ShloMosaic.Lib.StableHlo.Run

@[expose] public section

noncomputable section

namespace Cert.Proof.Search.Reference

open Cert.ReferenceIdeal Cert.ReferenceIdeal.Gen
open Idealize.ShloMosaic Idealize.ShloMosaic.TcCoe Idealize.ShloMosaic.StableHlo
open Idealize.SL.Sem

variable {F : FTy → Type} [FloatOps F]

/-- The operations up to the matrix of distances. -/
abbrev opsDist : List (HloOp τ sig (Elt F)) :=
  [ reshape main_arg0 main_v0 (rfl : (.f32 : EltTy) = .f32) shapeCasts_S16x1024x64_S16384x64,
    binary main_v0 main_v0 main_v1 (mulf),
    nullary main_cst (constant S_ .f32 0x00000000#32),
    binary main_v1 main_cst main_v2 ((fun x v => Host.reduceAdd x v reducesTo_S16384x64_S16384_d1 h_S_)),
    unary main_v2 main_v3 (broadcastInDim S16384x1 ![0] bcast_S16384_S16384x1_0),
    binary main_arg1 main_arg1 main_v4 (mulf),
    nullary main_cst_0 (constant S_ .f32 0x00000000#32),
    binary main_v4 main_cst_0 main_v5 ((fun x v => Host.reduceAdd x v reducesTo_S1024x64_S1024_d1 h_S_)),
    unary main_v5 main_v6 (broadcastInDim S1024x1 ![0] bcast_S1024_S1024x1_0),
    unary main_v6 main_v7 ((transpose S1x1024 [1, 0] · transposes_S1024x1_S1x1024_1_0)),
    unary main_arg1 main_v8 ((transpose S64x1024 [1, 0] · transposes_S1024x64_S64x1024_1_0)),
    binary main_v0 main_v8 main_v9 ((fun l r => Host.dotGeneral dot_S16384x64_S64x1024_S16384x1024_1_0_0_1_n_n none l r)),
    nullary main_cst_1 (constant S_ .f32 0x40000000#32),
    unary main_cst_1 main_v10 (broadcastInDim S16384x1024 ![] bcast_S_S16384x1024),
    binary main_v10 main_v9 main_v11 (mulf),
    unary main_v3 main_v12 (broadcastInDim S16384x1024 ![0, 1] bcast_S16384x1_S16384x1024_0_1),
    binary main_v12 main_v11 main_v13 (subf),
    unary main_v7 main_v14 (broadcastInDim S16384x1024 ![0, 1] bcast_S1x1024_S16384x1024_0_1),
    binary main_v13 main_v14 main_v15 (addf) ]

/-- The search in each row. -/
abbrev opsPlace : List (HloOp τ sig (Elt F)) :=
  [ TRef.nullary (.of (T := ⟨S16384x1024, .i32⟩) main_call0_v0) (iotaInDim S16384x1024 32 1),
    TRef.nullary (.of (T := ⟨S_, .f32⟩) main_call0_cst) (constant S_ .f32 0x7F800000#32),
    TRef.nullary (.of (T := ⟨S_, .i32⟩) main_call0_c) (constantI S_ 32 0#32),
    TRef.quaternary (.of (T := ⟨S16384x1024, .f32⟩) main_v15) (.of (T := ⟨S16384x1024, .i32⟩) main_call0_v0) (.of (T := ⟨S_, .f32⟩) main_call0_cst) (.of (T := ⟨S_, .i32⟩) main_call0_c) (.of (T := ⟨S16384, .f32⟩) main_call0_v1_0) (fun x y u v j => (Host.argReduce reducer_argmin_f32_i32 x y u v reducesTo_S16384x1024_S16384_d1 h_S_ j).1),
    TRef.quaternary (.of (T := ⟨S16384x1024, .f32⟩) main_v15) (.of (T := ⟨S16384x1024, .i32⟩) main_call0_v0) (.of (T := ⟨S_, .f32⟩) main_call0_cst) (.of (T := ⟨S_, .i32⟩) main_call0_c) (.of (T := ⟨S16384, .i32⟩) main_v16) (fun x y u v j => (Host.argReduce reducer_argmin_f32_i32 x y u v reducesTo_S16384x1024_S16384_d1 h_S_ j).2) ]

/-- The result in the shape of the list of indices. -/
abbrev opShape : HloOp τ sig (Elt F) := reshape main_v16 main_v17 (rfl : (.i32 : EltTy) = .i32) shapeCasts_S16384_S16x1024

/-- The rows at those places. -/
abbrev opsTake : List (HloOp τ sig (Elt F)) :=
  [ TRef.nullary (.of (T := ⟨S_, .i32⟩) main_call1_c) (constantI S_ 32 0#32),
    TRef.unary (.of (T := ⟨S_, .i32⟩) main_call1_c) (.of (T := ⟨S16x1024, .i32⟩) main_call1_v0) (broadcastInDim S16x1024 ![] bcast_S_S16x1024),
    TRef.binary (.of (T := ⟨S16x1024, .i32⟩) main_v17) (.of (T := ⟨S16x1024, .i32⟩) main_call1_v0) (.of (T := ⟨S16x1024, .i1⟩) main_call1_v1) (cmpi .slt),
    TRef.nullary (.of (T := ⟨S_, .i32⟩) main_call1_c_0) (constantI S_ 32 1024#32),
    TRef.unary (.of (T := ⟨S_, .i32⟩) main_call1_c_0) (.of (T := ⟨S16x1024, .i32⟩) main_call1_v2) (broadcastInDim S16x1024 ![] bcast_S_S16x1024),
    TRef.binary (.of (T := ⟨S16x1024, .i32⟩) main_v17) (.of (T := ⟨S16x1024, .i32⟩) main_call1_v2) (.of (T := ⟨S16x1024, .i32⟩) main_call1_v3) addi,
    TRef.ternary (.of (T := ⟨S16x1024, .i1⟩) main_call1_v1) (.of (T := ⟨S16x1024, .i32⟩) main_call1_v3) (.of (T := ⟨S16x1024, .i32⟩) main_v17) (.of (T := ⟨S16x1024, .i32⟩) main_call1_v4) select,
    TRef.unary (.of (T := ⟨S16x1024, .i32⟩) main_call1_v4) (.of (T := ⟨S16x1024x1, .i32⟩) main_call1_v5) (broadcastInDim S16x1024x1 ![0, 1] bcast_S16x1024_S16x1024x1_0_1),
    TRef.nullary (.of (T := ⟨S1, .i32⟩) main_call1_c_1) (constantI S1 32 1023#32),
    TRef.nullary (.of (T := ⟨S_, .i32⟩) main_call1_c_2) (constantI S_ 32 0#32),
    TRef.unary (.of (T := ⟨S_, .i32⟩) main_call1_c_2) (.of (T := ⟨S16x1024x1, .i32⟩) main_call1_v6) (broadcastInDim S16x1024x1 ![] bcast_S_S16x1024x1),
    TRef.binary (.of (T := ⟨S16x1024x1, .i32⟩) main_call1_v5) (.of (T := ⟨S16x1024x1, .i32⟩) main_call1_v6) (.of (T := ⟨S16x1024x1, .i1⟩) main_call1_v7) (cmpi .sge),
    TRef.unary (.of (T := ⟨S1, .i32⟩) main_call1_c_1) (.of (T := ⟨S1x1x1, .i32⟩) main_call1_v8) (broadcastInDim S1x1x1 ![2] bcast_S1_S1x1x1_2),
    TRef.unary (.of (T := ⟨S1x1x1, .i32⟩) main_call1_v8) (.of (T := ⟨S16x1024x1, .i32⟩) main_call1_v9) (broadcastInDim S16x1024x1 ![0, 1, 2] bcast_S1x1x1_S16x1024x1_0_1_2),
    TRef.binary (.of (T := ⟨S16x1024x1, .i32⟩) main_call1_v5) (.of (T := ⟨S16x1024x1, .i32⟩) main_call1_v9) (.of (T := ⟨S16x1024x1, .i1⟩) main_call1_v10) (cmpi .sle),
    TRef.binary (.of (T := ⟨S16x1024x1, .i1⟩) main_call1_v7) (.of (T := ⟨S16x1024x1, .i1⟩) main_call1_v10) (.of (T := ⟨S16x1024x1, .i1⟩) main_call1_v11) andi,
    TRef.nullary (.of (T := ⟨S_, .i1⟩) main_call1_c_3) (constantI S_ 1 1#1),
    TRef.binary (.of (T := ⟨S16x1024x1, .i1⟩) main_call1_v11) (.of (T := ⟨S_, .i1⟩) main_call1_c_3) (.of (T := ⟨S16x1024, .i1⟩) main_call1_v12) (fun x v => Host.reduce IntOp.andi x v reducesTo_S16x1024x1_S16x1024_d2 h_S_),
    TRef.binary (.of (T := ⟨S1024x64, .f32⟩) main_arg1) (.of (T := ⟨S16x1024x1, .i32⟩) main_call1_v5) (.of (T := ⟨S16x1024x64, .f32⟩) main_call1_v13) (fun x i => Host.gather gather_S1024x64_S16x1024x1_S16x1024x64_2_0_n_n_0_2_164 x i),
    TRef.unary (.of (T := ⟨S16x1024, .i1⟩) main_call1_v12) (.of (T := ⟨S16x1024x64, .i1⟩) main_call1_v14) (broadcastInDim S16x1024x64 ![0, 1] bcast_S16x1024_S16x1024x64_0_1),
    TRef.nullary (.of (T := ⟨S_, .f32⟩) main_call1_cst) (constant S_ .f32 0x7FC00000#32),
    TRef.unary (.of (T := ⟨S_, .f32⟩) main_call1_cst) (.of (T := ⟨S16x1024x64, .f32⟩) main_call1_v15) (broadcastInDim S16x1024x64 ![] bcast_S_S16x1024x64),
    TRef.ternary (.of (T := ⟨S16x1024x64, .i1⟩) main_call1_v14) (.of (T := ⟨S16x1024x64, .f32⟩) main_call1_v13) (.of (T := ⟨S16x1024x64, .f32⟩) main_call1_v15) (.of (T := ⟨S16x1024x64, .f32⟩) main_v18) select ]

/-- The loss, and the first result. -/
abbrev opsLoss : List (HloOp τ sig (Elt F)) :=
  [ binary main_arg0 main_v18 main_v19 (subf),
    binary main_v19 main_v19 main_v20 (mulf),
    nullary main_cst_2 (constant S_ .f32 0x00000000#32),
    binary main_v20 main_cst_2 main_v21 ((fun x v => Host.reduceAdd x v reducesTo_S16x1024x64_S_d0_1_2 h_S_)),
    nullary main_cst_3 (constant S_ .f32 0x49800000#32),
    binary main_v21 main_cst_3 main_v22 (Host.divf),
    binary main_arg0 main_v18 main_v23 (subf),
    binary main_v23 main_v23 main_v24 (mulf),
    nullary main_cst_4 (constant S_ .f32 0x00000000#32),
    binary main_v24 main_cst_4 main_v25 ((fun x v => Host.reduceAdd x v reducesTo_S16x1024x64_S_d0_1_2 h_S_)),
    nullary main_cst_5 (constant S_ .f32 0x49800000#32),
    binary main_v25 main_cst_5 main_v26 (Host.divf),
    nullary main_cst_6 (constant S_ .f32 0x3CCCCCCD#32),
    binary main_cst_6 main_v26 main_v27 (mulf),
    binary main_v22 main_v27 main_v28 (addf),
    binary main_v18 main_arg0 main_v29 (subf),
    binary main_arg0 main_v29 main_v30 (addf) ]

set_option maxRecDepth 65536 in
theorem main_eq (c : Dev nD) : main (F := F) c = seq (opsDist ++ (opsPlace ++ (opShape :: (opsTake ++ opsLoss)))) := rfl
theorem scopedRefs_eq : (Finset.univ.filter fun b : Ref sig .tc => b.isScoped) = ∅ := by decide
theorem scopedSems_eq : (Finset.univ.filter fun sm : SemLoc sig => sm.isScoped .tc) = ∅ := by decide

theorem opsDist_sub : (opsDist : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub ..⟩
theorem opsPlace_sub : (opsPlace : List (HloOp τ sig (Elt F))).Forall fun op => op.bufs ⊆ tcRefs τ sig :=
  ⟨nullary_bufs_sub .., nullary_bufs_sub .., nullary_bufs_sub .., quaternary_bufs_sub .., quaternary_bufs_sub ..⟩
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsLoss_sub : (opsLoss : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-! ## What each line leaves -/

/-- The matrix of distances. -/
def dist (x0 : FVec F S16x1024x64 .f32) (x1 : FVec F S1024x64 .f32) : FVec F S16384x1024 .f32 :=
  addf
    (subf
      (broadcastInDim S16384x1024 ![0, 1] bcast_S16384x1_S16384x1024_0_1 (broadcastInDim S16384x1 ![0] bcast_S16384_S16384x1_0
        (Host.reduceAdd (mulf (shapeCast S16384x64 x0 shapeCasts_S16x1024x64_S16384x64) (shapeCast S16384x64 x0 shapeCasts_S16x1024x64_S16384x64))
          (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none (shapeCast S16384x64 x0 shapeCasts_S16x1024x64_S16384x64)
          (transpose S64x1024 [1, 0] x1 transposes_S1024x64_S64x1024_1_0))))
    (broadcastInDim S16384x1024 ![0, 1] bcast_S1x1024_S16384x1024_0_1 (transpose S1x1024 [1, 0] (broadcastInDim S1024x1 ![0] bcast_S1024_S1024x1_0
      (Host.reduceAdd (mulf x1 x1) (constant S_ .f32 0x00000000#32) reducesTo_S1024x64_S1024_d1 h_S_)) transposes_S1024x1_S1x1024_1_0))

/-- The place of the least value of each row, row by row. -/
def placeFlat (v : FVec F S16384x1024 .f32) : IVec S16384 32 := fun j =>
  (Host.argReduce reducer_argmin_f32_i32 v (iotaInDim S16384x1024 32 1) (constant S_ .f32 0x7F800000#32) (constantI S_ 32 0#32)
    reducesTo_S16384x1024_S16384_d1 h_S_ j).2

/-- The place of the least value of each row, in the shape of the list of indices. -/
def place (v : FVec F S16384x1024 .f32) : IVec S16x1024 32 := shapeCast S16x1024 (placeFlat v) shapeCasts_S16384_S16x1024

/-- The place as a list of indices that may count from the end. -/
def fromEnd (w : IVec S16x1024 32) : IVec S16x1024x1 32 :=
  broadcastInDim S16x1024x1 ![0, 1] bcast_S16x1024_S16x1024x1_0_1
    (select (cmpi .slt w (broadcastInDim S16x1024 ![] bcast_S_S16x1024 (constantI S_ 32 0#32))) (addi w (broadcastInDim S16x1024 ![] bcast_S_S16x1024 (constantI S_ 32 1024#32))) w)

/-- The rows of the table at the places `w`, with a filler where a place is not in the table. -/
def rows (x1 : FVec F S1024x64 .f32) (w : IVec S16x1024 32) : FVec F S16x1024x64 .f32 :=
  select
    (broadcastInDim S16x1024x64 ![0, 1] bcast_S16x1024_S16x1024x64_0_1
      (Host.reduce IntOp.andi
        (andi (cmpi .sge (fromEnd w) (broadcastInDim S16x1024x1 ![] bcast_S_S16x1024x1 (constantI S_ 32 0#32)))
          (cmpi .sle (fromEnd w) (broadcastInDim S16x1024x1 ![0, 1, 2] bcast_S1x1x1_S16x1024x1_0_1_2 (broadcastInDim S1x1x1 ![2] bcast_S1_S1x1x1_2 (constantI S1 32 1023#32)))))
        (constantI S_ 1 1#1) reducesTo_S16x1024x1_S16x1024_d2 h_S_))
    (Host.gather gather_S1024x64_S16x1024x1_S16x1024x64_2_0_n_n_0_2_164 x1 (fromEnd w))
    (broadcastInDim S16x1024x64 ![] bcast_S_S16x1024x64 (constant S_ .f32 0x7FC00000#32))

/-- The mean of the squared differences. -/
def mean (x0 q : FVec F S16x1024x64 .f32) : FVec F S_ .f32 :=
  Host.divf (Host.reduceAdd (mulf (subf x0 q) (subf x0 q)) (constant S_ .f32 0x00000000#32) reducesTo_S16x1024x64_S_d0_1_2 h_S_) (constant S_ .f32 0x49800000#32)

/-- The loss: the mean and a part of it once more. -/
def loss (x0 q : FVec F S16x1024x64 .f32) : FVec F S_ .f32 :=
  addf (mean x0 q) (mulf (constant S_ .f32 0x3CCCCCCD#32) (mean x0 q))

variable (V : Valuation τ sig (Elt F))

theorem after_opsDist : after opsDist V (Proc.devRef .tc main_v15) = dist (V (Proc.devRef .tc main_arg0)) (V (Proc.devRef .tc main_arg1)) := by
  simp only [opsDist]; after_results <;> rfl

theorem after_opsPlace : after opsPlace V (Proc.devRef .tc main_v16) = placeFlat (V (Proc.devRef .tc main_v15)) := by
  simp only [opsPlace, TRef.quaternary, TRef.nullary, TRef.toBuf, TRef.ofBuf, cast_eq]; after_results <;> rfl

theorem opShape_result : (opShape (F := F)).result V (Proc.devRef .tc main_v17) = shapeCast S16x1024 (V (Proc.devRef .tc main_v16) : IVec S16384 32) shapeCasts_S16384_S16x1024 := by
  rw [StableHlo.reshape_result]
  rfl

set_option maxHeartbeats 1000000 in
theorem after_opsTake : after opsTake V (Proc.devRef .tc main_v18) = rows (V (Proc.devRef .tc main_arg1)) (V (Proc.devRef .tc main_v17)) := by
  simp only [opsTake, TRef.binary, TRef.nullary, TRef.ternary, TRef.unary, TRef.toBuf, TRef.ofBuf, cast_eq]; after_results <;> rfl

theorem after_opsLoss : after opsLoss V (Proc.devRef .tc main_v28) = loss (V (Proc.devRef .tc main_arg0)) (V (Proc.devRef .tc main_v18)) := by
  simp only [opsLoss]; after_results <;> rfl

/-! ## The run -/

/-- All the operations, in order. -/
abbrev ops : List (HloOp τ sig (Elt F)) := opsDist ++ (opsPlace ++ (opShape :: (opsTake ++ opsLoss)))

theorem after_ops : after ops V = after opsLoss (after opsTake (opShape.result (after opsPlace (after opsDist V)))) := rfl

theorem ops_sub : (ops : List (HloOp τ sig (Elt F))).Forall fun op => op.bufs ⊆ tcRefs τ sig := by
  refine List.forall_iff_forall_mem.mpr fun op h => ?_
  rcases List.mem_append.mp h with h | h
  · exact List.forall_iff_forall_mem.mp opsDist_sub op h
  rcases List.mem_append.mp h with h | h
  · exact List.forall_iff_forall_mem.mp opsPlace_sub op h
  rcases List.mem_cons.mp h with rfl | h
  · exact reshape_bufs_sub ..
  rcases List.mem_append.mp h with h | h
  · exact List.forall_iff_forall_mem.mp opsTake_sub op h
  · exact List.forall_iff_forall_mem.mp opsLoss_sub op h

/-- No operation writes an argument. -/
theorem after_arg (b : Ref sig .tc) (hb : b = main_arg0 ∨ b = main_arg1) :
    after opsDist V (Proc.devRef .tc b) = V (Proc.devRef .tc b) ∧ after opsPlace V (Proc.devRef .tc b) = V (Proc.devRef .tc b)
      ∧ (opShape (F := F)).result V (Proc.devRef .tc b) = V (Proc.devRef .tc b) ∧ after opsTake V (Proc.devRef .tc b) = V (Proc.devRef .tc b)
      ∧ after opsLoss V (Proc.devRef .tc b) = V (Proc.devRef .tc b) := by
  rcases hb with rfl | rfl
  all_goals
    refine ⟨?_, ?_, ?_, ?_, ?_⟩
    · simp only [opsDist]; after_results <;> rfl
    · simp only [opsPlace, TRef.quaternary, TRef.nullary]; after_results <;> rfl
    · exact (opShape (F := F)).result_of_not_mem _ (show _ ∉ ({Proc.devRef .tc main_v17} : Finset (DevRef τ sig)) by decide)
    · simp only [opsTake, TRef.binary, TRef.nullary, TRef.ternary, TRef.unary]; after_results <;> rfl
    · simp only [opsLoss]; after_results <;> rfl

theorem after_ops_arg (b : Ref sig .tc) (hb : b = main_arg0 ∨ b = main_arg1) : after ops V (Proc.devRef .tc b) = V (Proc.devRef .tc b) := by
  rw [after_ops, (after_arg _ b hb).2.2.2.2, (after_arg _ b hb).2.2.2.1, (after_arg _ b hb).2.2.1, (after_arg _ b hb).2.1, (after_arg _ b hb).1]

/-- The list of indices that the operations leave. -/
theorem after_ops_place : after ops V (Proc.devRef .tc main_v17) = place (dist (V (Proc.devRef .tc main_arg0)) (V (Proc.devRef .tc main_arg1))) := by
  have e1 : ∀ W : Valuation τ sig (Elt F), after opsLoss W (Proc.devRef .tc main_v17) = W (Proc.devRef .tc main_v17) := fun W => by
    simp only [opsLoss]; after_results <;> rfl
  have e2 : ∀ W : Valuation τ sig (Elt F), after opsTake W (Proc.devRef .tc main_v17) = W (Proc.devRef .tc main_v17) := fun W => by
    simp only [opsTake, TRef.binary, TRef.nullary, TRef.ternary, TRef.unary]; after_results <;> rfl
  rw [after_ops, e1, e2, opShape_result, after_opsPlace, after_opsDist, place]

/-- The loss that the operations leave. -/
theorem after_ops_loss : after ops V (Proc.devRef .tc main_v28) = loss (V (Proc.devRef .tc main_arg0))
    (rows (V (Proc.devRef .tc main_arg1)) (place (dist (V (Proc.devRef .tc main_arg0)) (V (Proc.devRef .tc main_arg1))))) := by
  have h0 := Or.inl (b := main_arg0 = main_arg1) (rfl : main_arg0 = main_arg0)
  have h1 := Or.inr (a := main_arg1 = main_arg0) (rfl : main_arg1 = main_arg1)
  rw [after_ops, after_opsLoss, after_opsTake, opShape_result, after_opsPlace, after_opsDist, place,
    (after_arg _ _ h0).2.2.2.1, (after_arg _ _ h0).2.2.1, (after_arg _ _ h0).2.1, (after_arg _ _ h0).1,
    (after_arg _ _ h1).2.2.1, (after_arg _ _ h1).2.1, (after_arg _ _ h1).1]

/-- Every run of the reference ends, with the list of indices and the loss as computed from the arguments, and with the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = place (dist (m ((c.tc : Thread nD τ).loc main_arg0)) (m ((c.tc : Thread nD τ).loc main_arg1)))
      ∧ r.2.mem ((c.tc : Thread nD τ).loc main_v28) = loss (m ((c.tc : Thread nD τ).loc main_arg0))
          (rows (m ((c.tc : Thread nD τ).loc main_arg1)) (place (dist (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (after_ops_place _), (h c main_v28).trans (after_ops_loss _),
      (h c main_arg0).trans (after_ops_arg _ _ (.inl rfl)), (h c main_arg1).trans (after_ops_arg _ _ (.inr rfl))⟩)
    (run_seq scopedRefs_eq scopedSems_eq defs main (fun _ => ops) main_eq (fun _ => ops_sub) m ρ)

end Cert.Proof.Search.Reference

end
-- ==== Proof.Search.Scan.lean ====
/-
  A search along the rows of a matrix, by a fold over the pairs of a value and a number.
-/
module

public import proofs.«01_k».proof.Proof.Search.Math
public import Idealize.ShloMosaic.PureOps.Reduce

@[expose] public section

noncomputable section

namespace Cert.Proof.Search

open Idealize.ShloMosaic

/-- The list of a row's pairs holds the value and the number of each place of the row. -/
theorem mem_fiber {A B : ℕ} (h : (⟨2, ![A, B]⟩ : Shape).ReducesTo [1] ⟨1, ![A]⟩) (v : (⟨2, ![A, B]⟩ : Shape).Idx → EReal) (y : (⟨2, ![A, B]⟩ : Shape).Idx → BitVec 32)
    (n : Fin A) (p : EReal × BitVec 32) :
    p ∈ Host.argReduceFiber v y h (ix1 n) ↔ ∃ k : Fin B, p = (v (ix2 n k), y (ix2 n k)) := by
  simp only [Host.argReduceFiber, List.mem_map, List.mem_filter, List.mem_finRange, true_and, decide_eq_true_eq]
  constructor
  · rintro ⟨q, hq, rfl⟩
    obtain ⟨k, hk⟩ := (Shape.ReducesTo.fiber_r2_a1 h (ix1 n) _).mp hq
    exact ⟨k, by rw [← hk]; rfl⟩
  · rintro ⟨k, rfl⟩
    refine ⟨Shape.rowMajor _ (ix2 n k), ?_, ?_⟩
    · rw [Equiv.symm_apply_apply]
      exact (Shape.ReducesTo.fiber_r2_a1 h (ix1 n) _).mpr ⟨k, rfl⟩
    · rw [Equiv.symm_apply_apply]

/-- A search in row `n`, from infinity, by a body that keeps one of two pairs that comes no later than either, ends at the
    first place of the least value. -/
theorem search_best {A : ℕ} {u : Shape} (h : (⟨2, ![A, 1024]⟩ : Shape).ReducesTo [1] ⟨1, ![A]⟩) (hu : 0 < u.numel)
    (r : EReal × BitVec 32 → EReal × BitVec 32 → EReal × BitVec 32)
    (hr : ∀ a b, (r a b = a ∨ r a b = b) ∧ NoLater (r a b) a ∧ NoLater (r a b) b)
    (v : FVec Ideal ⟨2, ![A, 1024]⟩ .f32) (y : (⟨2, ![A, 1024]⟩ : Shape).Idx → BitVec 32) (ix : u.Idx → EReal) (iy : u.Idx → BitVec 32) (hix : ∀ i, ix i = ⊤)
    (n : Fin A) (f : Fin 1024 → ℝ) (hf : ∀ k, v (ix2 n k) = ((f k : ℝ) : EReal)) (hy : ∀ k : Fin 1024, y (ix2 n k) = BitVec.ofNat 32 k.val) :
    (Host.argReduce (F := Ideal) (φ := .f32) r v y ix iy h hu (ix1 n)).2 = BitVec.ofNat 32 (best f).val := by
  rw [Ideal.argReduce_eq_reduce2, Host.reduce2_eq_foldl_fiber, hix]
  exact foldl_best r hr f _ (fun p => (mem_fiber h v y n p).trans (exists_congr fun k => by rw [hf k, hy k])) _

end Cert.Proof.Search

end
-- ==== Proof.Search.RefValue.lean ====
/-
  What the reference computes, read at an index: the distances, the place of the least one, the row at that place, and the
  loss.
-/
module

public import proofs.«01_k».proof.Proof.Search.RefRun
public import proofs.«01_k».proof.Proof.Search.Scan
public import Idealize.ShloMosaic.Lib.ReduceAll
public import Idealize.ShloMosaic.Lib.Pointwise
public import Idealize.ShloMosaic.Lib.Pipeline.ValueKit.Acc

@[expose] public section

noncomputable section

namespace Cert.Proof.Search.Reference

open Cert.ReferenceIdeal Cert.ReferenceIdeal.Gen
open Idealize.ShloMosaic

variable (x0 : FVec Ideal S16x1024x64 .f32) (x1 : FVec Ideal S1024x64 .f32)

/-- Of arguments with real entries, the matrix of distances holds the squared distance of each two rows. -/
theorem dist_apply (h0 : AllReal x0) (h1 : AllReal x1) (n : Fin 16384) (k : Fin 1024) :
    dist (F := Ideal) x0 x1 (ix2 n k) = ((score x0 x1 n k : ℝ) : EReal) := by
  have e0 : ∀ d : Fin 64, x0 (ix3 (⟨n.val / 1024, by omega⟩ : Fin 16) (⟨n.val % 1024, by omega⟩ : Fin 1024) d) = ((zRow x0 n d : ℝ) : EReal) := fun d => h0 _
  have e1 : ∀ d : Fin 64, x1 (ix2 k d) = ((cRow x1 k d : ℝ) : EReal) := fun d => h1 _
  pointwise [dist]
  simp only [e0, e1]
  rw [show Ideal.ofBits FTy.f32 1073741824#32 = ((2 : ℝ) : EReal) from word_two]
  exact sqDist_expanded _ _

/-- The body of the search keeps, of two pairs, one that comes no later than either. -/
theorem reducer_noLater (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨x, v⟩ := a
  obtain ⟨y, w⟩ := b
  have key : reducer_argmin_f32_i32 (F := Ideal) (x, v) (y, w) = if x < y ∨ x = y ∧ v.toInt < w.toInt then (x, v) else (y, w) := by
    have b0 : ∀ p : Bool, (BitVec.ofBool p = 0#1) ↔ p = false := by decide
    rcases lt_trichotomy x y with h | h | h
    · simp [reducer_argmin_f32_i32, Ideal.cmpf_def, Ideal.cmp, Scalar.select, IntOp.ori, IntOp.andi, IntOp.cmpi, h, ne_of_lt h]
    · subst h
      by_cases hv : v.toInt < w.toInt <;>
        simp [reducer_argmin_f32_i32, Ideal.cmpf_def, Ideal.cmp, Scalar.select, IntOp.ori, IntOp.andi, IntOp.cmpi, BitVec.slt_eq_decide, hv]
    · simp [reducer_argmin_f32_i32, Ideal.cmpf_def, Ideal.cmp, Scalar.select, IntOp.ori, IntOp.andi, IntOp.cmpi, not_lt_of_gt h, (ne_of_lt h).symm]
  rw [key]
  split_ifs with h
  · refine ⟨.inl rfl, .refl _, ?_⟩
    exact h.imp id fun h => ⟨h.1, h.2.le⟩
  · refine ⟨.inr rfl, ?_, .refl _⟩
    rcases lt_trichotomy x y with h' | h' | h'
    · exact absurd (.inl h') h
    · exact .inr ⟨h'.symm, not_lt.mp fun hv => h (.inr ⟨h', hv⟩)⟩
    · exact .inl h'

/-- The flat list of places, by its definition. -/
theorem placeFlat_eq {F : FTy → Type} [FloatOps F] (v : FVec F S16384x1024 .f32) : placeFlat v = fun j =>
    (Host.argReduce (F := F) reducer_argmin_f32_i32 v (iotaInDim S16384x1024 32 1) (constant S_ .f32 0x7F800000#32) (constantI S_ 32 0#32)
      reducesTo_S16384x1024_S16384_d1 h_S_ j).2 := rfl

theorem iota_apply (n : Fin 16384) (k : Fin 1024) : iotaInDim S16384x1024 32 1 (ix2 n k) = BitVec.ofNat 32 k.val := rfl
theorem infinity_apply (i : S_.Idx) : (constant (F := Ideal) S_ .f32 0x7F800000#32) i = (⊤ : EReal) := word_top

/-- The search in row `n`, its numbers and its first value given by what they hold. -/
theorem argmin_apply (v : FVec Ideal S16384x1024 .f32) (n : Fin 16384) (f : Fin 1024 → ℝ) (hf : ∀ k, v (ix2 n k) = ((f k : ℝ) : EReal))
    (y : S16384x1024.Idx → BitVec 32) (hy : ∀ k : Fin 1024, y (ix2 n k) = BitVec.ofNat 32 k.val) (ix : S_.Idx → EReal) (hix : ∀ i, ix i = ⊤) (iy : IVec S_ 32) :
    (Host.argReduce (F := Ideal) (φ := .f32) (reducer_argmin_f32_i32 (F := Ideal)) v y ix iy reducesTo_S16384x1024_S16384_d1 h_S_ (ix1 n)).2
      = BitVec.ofNat 32 (best f).val := by
  have h := search_best (u := S_) reducesTo_S16384x1024_S16384_d1 h_S_ (reducer_argmin_f32_i32 (F := Ideal)) reducer_noLater v y ix iy hix n f hf hy
  with_reducible exact h

/-- The search in row `n` ends at the first place of the least value. -/
theorem placeFlat_apply (v : FVec Ideal S16384x1024 .f32) (n : Fin 16384) (f : Fin 1024 → ℝ) (hf : ∀ k, v (ix2 n k) = ((f k : ℝ) : EReal)) :
    placeFlat v (ix1 n) = BitVec.ofNat 32 (best f).val :=
  (congrFun (placeFlat_eq (F := Ideal) v) (ix1 n)).trans (argmin_apply v n f hf _ (iota_apply n) _ infinity_apply _)

/-- The list of places in its own shape is the flat list, row by row. -/
theorem shape_apply (w : IVec S16384 32) (a : Fin 16) (b : Fin 1024) (n : Fin 16384) (hn : n.val = a.val * 1024 + b.val) :
    shapeCast S16x1024 w shapeCasts_S16384_S16x1024 (ix2 a b) = w (ix1 n) := by
  refine shapeCast_apply _ _ _ _ ?_
  rw [ix1_eq_valueIdx, ix2_eq_valueIdx, Shape.rowMajor_val_two, Shape.rowMajor_val_one]
  exact hn

/-- The reference's list of indices: for each row, the number of the first row of the table that is nearest. -/
theorem place_apply (h0 : AllReal x0) (h1 : AllReal x1) (a : Fin 16) (b : Fin 1024) (n : Fin 16384) (hn : n.val = a.val * 1024 + b.val) :
    place (dist (F := Ideal) x0 x1) (ix2 a b) = BitVec.ofNat 32 (nearest x0 x1 n).val := by
  unfold place
  rw [shape_apply _ a b n hn]
  exact placeFlat_apply _ n _ (dist_apply x0 x1 h0 h1 n)

/-- The gather at a place in the table reads that row. -/
theorem gather_apply (idx : IVec S16x1024x1 32) (a : Fin 16) (b : Fin 1024) (d : Fin 64) (k : Fin 1024) (hk : idx (ix3 a b 0) = BitVec.ofNat 32 k.val) :
    Host.gather gather_S1024x64_S16x1024x1_S16x1024x64_2_0_n_n_0_2_164 x1 idx (ix3 a b d) = x1 (ix2 k d) := by
  unfold Host.gather
  congr 1
  funext c
  refine Fin.ext ?_
  show gather_S1024x64_S16x1024x1_S16x1024x64_2_0_n_n_0_2_164.start (ix3 a b d) idx c + gather_S1024x64_S16x1024x1_S16x1024x64_2_0_n_n_0_2_164.batchCoord (ix3 a b d) c
    + gather_S1024x64_S16x1024x1_S16x1024x64_2_0_n_n_0_2_164.offCoord (ix3 a b d) c = _
  rw [GatherDims.batchCoord_eq_zero _ _ _ List.not_mem_nil]
  match c with
  | (0 : Fin 2) =>
    rw [GatherDims.offCoord_eq_zero _ _ _ (fun h => ((GatherDims.mem_sKept _ _).mp h).1 (List.mem_singleton.mpr rfl))]
    unfold GatherDims.start
    rw [dif_pos (show (0 : Fin 2) ∈ gather_S1024x64_S16x1024x1_S16x1024x64_2_0_n_n_0_2_164.startIndexMap from List.mem_singleton.mpr rfl)]
    have e : gather_S1024x64_S16x1024x1_S16x1024x64_2_0_n_n_0_2_164.siIdx (ix3 a b d) ⟨List.idxOf (0 : Fin 2) gather_S1024x64_S16x1024x1_S16x1024x64_2_0_n_n_0_2_164.startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [e, hk, toInt_index]
    have := k.isLt
    show min k.val (1024 - 1) + 0 + 0 = k.val
    omega
  | (1 : Fin 2) =>
    unfold GatherDims.start GatherDims.offCoord
    rw [dif_neg (by decide), dif_pos (by decide)]
    show 0 + 0 + d.val = d.val
    omega

/-- The comparisons that tell whether a place is in the table, at a place that is. -/
theorem in_table (k : Fin 1024) : IntOp.cmpi .slt (BitVec.ofNat 32 k.val) 0#32 = 0#1 ∧ IntOp.cmpi .sge (BitVec.ofNat 32 k.val) 0#32 = 1#1
    ∧ IntOp.cmpi .sle (BitVec.ofNat 32 k.val) 1023#32 = 1#1 := by
  have := k.isLt
  refine ⟨?_, ?_, ?_⟩ <;>
    simp only [IntOp.cmpi, BitVec.slt_eq_decide, BitVec.sle_eq_decide, toInt_index, show (0#32).toInt = 0 from rfl, show (1023#32).toInt = 1023 from rfl]
  · rw [decide_eq_false (by omega)]; rfl
  · rw [decide_eq_true (by omega)]; rfl
  · rw [decide_eq_true (by omega)]; rfl

/-- A place in the table counts from the start. -/
theorem fromEnd_apply (w : IVec S16x1024 32) (a : Fin 16) (b : Fin 1024) (k : Fin 1024) (hk : w (ix2 a b) = BitVec.ofNat 32 k.val) (z : Fin 1) :
    fromEnd w (ix3 a b z) = BitVec.ofNat 32 k.val := by
  pointwise [fromEnd]
  rw [hk, (in_table k).1]
  rfl

/-- The row read at a place in the table. -/
theorem rows_apply (w : IVec S16x1024 32) (a : Fin 16) (b : Fin 1024) (d : Fin 64) (k : Fin 1024) (hk : w (ix2 a b) = BitVec.ofNat 32 k.val) :
    rows (F := Ideal) x1 w (ix3 a b d) = x1 (ix2 k d) := by
  have g := gather_apply x1 (fromEnd w) a b d k (fromEnd_apply w a b k hk 0)
  have s := in_table k
  have e := fromEnd_apply w a b k hk
  unfold rows
  generalize fromEnd w = idx at g e
  pointwise []
  rw [g]
  simp only [e, s.2.1, s.2.2]
  simp [IntOp.andi, Scalar.select]

/-- The reference's loss. -/
theorem loss_apply (h0 : AllReal x0) (h1 : AllReal x1) (i : S_.Idx) : loss (F := Ideal) x0 (rows x1 (place (dist x0 x1))) i = lossOf x0 x1 := by
  have r : ∀ (a : Fin 16) (b : Fin 1024) (d : Fin 64) (hl : a.val * 1024 + b.val < 16384),
      rows (F := Ideal) x1 (place (dist x0 x1)) (ix3 a b d) = ((cRow x1 (nearest x0 x1 ⟨a.val * 1024 + b.val, hl⟩) d : ℝ) : EReal) := fun a b d hl =>
    (rows_apply x1 _ a b d _ (place_apply x0 x1 h0 h1 a b ⟨a.val * 1024 + b.val, hl⟩ rfl)).trans (h1 _)
  generalize rows (F := Ideal) x1 (place (dist x0 x1)) = q at r
  have sum : ∑ a : Fin 16, ∑ b : Fin 1024, ∑ d : Fin 64, (x0 (ix3 a b d) - q (ix3 a b d)) * (x0 (ix3 a b d) - q (ix3 a b d)) = ((total x0 x1 : ℝ) : EReal) := by
    rw [total, coe_sum]
    refine Fin.sum_mul_add_congr (f := fun n : Fin 16384 => ((score x0 x1 n (nearest x0 x1 n) : ℝ) : EReal)) fun a b hl => ?_
    have e0 : ∀ d : Fin 64, x0 (ix3 a b d) = ((zRow x0 ⟨a.val * 1024 + b.val, hl⟩ d : ℝ) : EReal) := fun d => by
      have hb := b.isLt
      have ha : (⟨(a.val * 1024 + b.val) / 1024, by omega⟩ : Fin 16) = a := Fin.ext (by show (a.val * 1024 + b.val) / 1024 = a.val; omega)
      have hb' : (⟨(a.val * 1024 + b.val) % 1024, by omega⟩ : Fin 1024) = b := Fin.ext (by show (a.val * 1024 + b.val) % 1024 = b.val; omega)
      simp only [zRow, ha, hb']
      exact h0 _
    simp only [e0, r a b _ hl]
    exact sqDist_diff _ _
  have mean : mean (F := Ideal) x0 q ix0 = Ideal.div ((total x0 x1 : ℝ) : EReal) ((1048576 : ℝ) : EReal) := by
    pointwise [mean]
    rw [sum, show Ideal.ofBits FTy.f32 1233125376#32 = ((1048576 : ℝ) : EReal) from word_count]
  obtain rfl : i = ix0 := funext fun a => a.elim0
  show Reference.mean (F := Ideal) x0 q ix0 + Ideal.ofBits .f32 0x3CCCCCCD#32 * Reference.mean (F := Ideal) x0 q ix0 = _
  rw [mean, word_beta]
  exact loss_eq _

end Cert.Proof.Search.Reference

end
-- ==== Proof.Search.Claims.lean ====
/-
  The claims about the kernel and its reference: they end, and the places and the loss they leave are the same.
-/
module

public import proofs.«01_k».proof.Proof.Search.KernelValue
public import proofs.«01_k».proof.Proof.Search.RefValue
public import proofs.«01_k».proof.Proof.Gen.Pre_finite
public import proofs.«01_k».proof.Proof.Gen.On_found
public import proofs.«01_k».proof.Defs

@[expose] public section

noncomputable section

namespace Cert.Proof.Search

open Idealize.ShloMosaic Idealize.ShloMosaic.TcCoe
open Idealize.SL.Sem

/-! ## The precondition -/

theorem word_inf : Ideal.ofBits FTy.f32 0x7F800000#32 = ⊤ := by simp [Ideal.ofBits, Ideal.ieee]

/-- An extended real whose absolute value is below `+∞` is a real number. -/
theorem real_of_abs_lt (x : EReal) (h : max x (-x) < ⊤) : x = (x.toReal : EReal) := by
  refine (EReal.coe_toReal (fun e => ?_) (fun e => ?_)).symm
  · exact absurd (lt_of_le_of_lt (le_max_left _ _) h) (by rw [e]; exact lt_irrefl _)
  · exact absurd (lt_of_le_of_lt (le_max_right _ _) h) (by rw [e, EReal.neg_bot]; exact lt_irrefl _)

/-- The test an entry passes when it is finite. -/
theorem real_of_test (x : EReal) (h : FloatOps.cmpf (F := Ideal) (φ := .f32) .olt (FloatOps.absf (F := Ideal) (φ := .f32) x) (Ideal.ofBits FTy.f32 0x7F800000#32) = 1#1) : x = (x.toReal : EReal) := by
  have b1 : ∀ p : Bool, (BitVec.ofBool p = 1#1) ↔ p = true := by decide
  rw [Ideal.cmpf_def, Ideal.absf_def, word_inf] at h
  exact real_of_abs_lt x (of_decide_eq_true ((b1 _).mp h))

/-- The claim's precondition says that both arguments have real entries. -/
theorem allReal_of_pre (x0 : FVec Ideal ⟨3, ![16, 1024, 64]⟩ .f32) (x1 : FVec Ideal ⟨2, ![1024, 64]⟩ .f32)
    (h : Cert.Pre_finite.fn (F := Ideal) x0 x1 = fun _ => 1#1) : AllReal x0 ∧ AllReal x1 := by
  have e := congrFun h (fun a => a.elim0)
  have both : ∀ p q : BitVec 1, IntOp.andi p q = 1#1 → p = 1#1 ∧ q = 1#1 := by decide
  obtain ⟨e0, e1⟩ := both _ _ e
  exact ⟨fun j => real_of_test _ (Host.reduce_andi_eq_one _ _ _ _ _ e0 j (funext fun a => a.elim0)),
    fun j => real_of_test _ (Host.reduce_andi_eq_one _ _ _ _ _ e1 j (funext fun a => a.elim0))⟩

/-! ## What the kernel's program leaves -/

namespace Kernel

open Cert.KernelIdeal Cert.KernelIdeal.Gen

variable (m : (ℓ : Loc nD τ sig) → Buf (Elt Ideal) ℓ) (c : Dev nD)

/-- The list the program returns is the kernel's, laid out as a matrix. -/
theorem tail_place : Pipeline.afterTail₀ cfgs (dats m) 0 (V0 m) [hostOps1] c main_v3
    = shapeCast S16x1024 ((dats m 0 c).arrAt 2 cfg0.N) shapeCasts_S4x1x4096_S16x1024 := by
  unfold Pipeline.afterTail₀
  show StableHlo.after hostOps1 _ _ = _
  after_results
  · exact congrArg (fun x => shapeCast S16x1024 x shapeCasts_S4x1x4096_S16x1024) (Pipeline.withArrays_arr spec0 (by decide) c (V0 m c) _ 2)

/-- The loss the program returns is the kernel's, as a scalar. -/
theorem tail_loss : Pipeline.afterTail₀ cfgs (dats m) 0 (V0 m) [hostOps1] c main_v4
    = shapeCast S_ ((dats m 0 c).arrAt 3 cfg0.N) shapeCasts_S1x1_S_ := by
  unfold Pipeline.afterTail₀
  show StableHlo.after hostOps1 _ _ = _
  after_results
  · exact congrArg (fun x => shapeCast S_ x shapeCasts_S1x1_S_) (Pipeline.withArrays_arr spec0 (by decide) c (V0 m c) _ 3)

theorem at_lt (a : Fin 16) (b : Fin 1024) : a.val * 1024 + b.val < 16384 := by omega

/-- For each row, the program's list holds the place of its nearest row of the table. -/
theorem tail_place_apply (h0 : AllReal (arg0 m c)) (h1 : AllReal (arg1 m c)) (a : Fin 16) (b : Fin 1024) :
    (Pipeline.afterTail₀ cfgs (dats m) 0 (V0 m) [hostOps1] c main_v3 : S16x1024.Idx → BitVec 32) (ix2 a b)
      = BitVec.ofNat 32 (nearest (arg0 m c) (arg1 m c) ⟨a.val * 1024 + b.val, at_lt a b⟩).val := by
  rw [tail_place, places m c h0 h1]
  have hn := at_lt a b
  refine (shapeCast_apply _ _ (ix2 a b) (ix3 (⟨(a.val * 1024 + b.val) / 4096, by omega⟩ : Fin 4) (⟨0, by decide⟩ : Fin 1) (⟨(a.val * 1024 + b.val) % 4096, by omega⟩ : Fin 4096)) ?_).trans
    (congrArg (fun n : Fin 16384 => BitVec.ofNat 32 (nearest (arg0 m c) (arg1 m c) n).val) (Fin.ext ?_))
  · rw [ix2_eq_valueIdx, ix3_eq_valueIdx, Shape.rowMajor_val_two, Shape.rowMajor_val_three]
    show ((a.val * 1024 + b.val) / 4096 * 1 + 0) * 4096 + (a.val * 1024 + b.val) % 4096 = a.val * 1024 + b.val
    omega
  · show (a.val * 1024 + b.val) / 4096 * 4096 + (a.val * 1024 + b.val) % 4096 = a.val * 1024 + b.val
    omega

/-- The program's loss. -/
theorem tail_loss_apply (h0 : AllReal (arg0 m c)) (h1 : AllReal (arg1 m c)) (i : S_.Idx) :
    (Pipeline.afterTail₀ cfgs (dats m) 0 (V0 m) [hostOps1] c main_v4 : S_.Idx → EReal) i = lossOf (arg0 m c) (arg1 m c) := by
  rw [tail_loss, losses m c h0 h1]
  rfl

end Kernel

/-! ## The frames -/

/-- The reference ends, with its arguments as they were and no semaphore raised. -/
theorem frame_reference : Cert.quiescent_ReferenceIdeal := fun m ρ _ =>
  (θ_run Cert.ReferenceIdeal.defs _ _).mono (fun r h => ⟨fun c => (h c).2.2, sem_eq_zero_of_no_sems (by decide) r.2⟩)
    (Reference.run (F := Ideal) m ρ)

theorem frame_reference_pre : Cert.quiescent_ReferenceIdeal_pre_finite := fun m ρ _ => frame_reference m ρ (by trivial)

/-- The kernel ends, with its arguments as they were and every semaphore at zero. -/
theorem frame_kernel_pre : Cert.quiescent_KernelIdeal_pre_finite := fun m ρ _ => Cert.KernelIdeal.Gen.frame m ρ

/-! ## The value claim -/

/-- The places of the nearest rows, as a matrix of words. -/
def placesOf (x0 : (⟨3, ![16, 1024, 64]⟩ : Shape).Idx → EReal) (x1 : (⟨2, ![1024, 64]⟩ : Shape).Idx → EReal) : (⟨2, ![16, 1024]⟩ : Shape).Idx → BitVec 32 :=
  fun i => BitVec.ofNat 32 (nearest x0 x1 ⟨(i 0).val * 1024 + (i 1).val, Kernel.at_lt (i 0) (i 1)⟩).val

theorem at_ix2 (i : (⟨2, ![16, 1024]⟩ : Shape).Idx) : i = ix2 (i 0 : Fin 16) (i 1 : Fin 1024) :=
  funext fun q => match q with
    | (0 : Fin 2) => rfl
    | (1 : Fin 2) => rfl

/-- The reference leaves the places of the nearest rows and the loss of those rows. -/
theorem reference_leaves (m : (ℓ : Loc Cert.ReferenceIdeal.nD Cert.ReferenceIdeal.τ Cert.ReferenceIdeal.sig) → Buf (Elt Ideal) ℓ) (ρ : Dev Cert.ReferenceIdeal.nD → PrngReg)
    (x0 : Dev Cert.ReferenceIdeal.nD → (⟨3, ![16, 1024, 64]⟩ : Shape).Idx → EReal) (x1 : Dev Cert.ReferenceIdeal.nD → (⟨2, ![1024, 64]⟩ : Shape).Idx → EReal)
    (e : ∀ c : Dev Cert.ReferenceIdeal.nD, m ((c.tc : Thread Cert.ReferenceIdeal.nD Cert.ReferenceIdeal.τ).loc Cert.ReferenceIdeal.main_arg0) = x0 c ∧ m ((c.tc : Thread Cert.ReferenceIdeal.nD Cert.ReferenceIdeal.τ).loc Cert.ReferenceIdeal.main_arg1) = x1 c)
    (h : ∀ c, AllReal (x0 c) ∧ AllReal (x1 c)) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v17) = placesOf (x0 c) (x1 c)
      ∧ r.2.mem ((c.tc : Thread Cert.ReferenceIdeal.nD Cert.ReferenceIdeal.τ).loc Cert.ReferenceIdeal.main_v28) = (fun _ => lossOf (x0 c) (x1 c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) := by
  refine (θ_run Cert.ReferenceIdeal.defs _ _).mono (fun r hr c => ?_) (Reference.run (F := Ideal) m ρ)
  obtain ⟨hp, hl, ha⟩ := hr c
  rw [(e c).1, (e c).2] at hp hl
  refine ⟨hp.trans (funext fun i => ?_), hl.trans (funext fun i => Reference.loss_apply _ _ (h c).1 (h c).2 i), ha⟩
  exact (congrArg (Reference.place (Reference.dist (F := Ideal) (x0 c) (x1 c)) : (⟨2, ![16, 1024]⟩ : Shape).Idx → BitVec 32) (at_ix2 i)).trans
    (Reference.place_apply _ _ (h c).1 (h c).2 (i 0 : Fin 16) (i 1 : Fin 1024) ⟨(i 0).val * 1024 + (i 1).val, Kernel.at_lt (i 0) (i 1)⟩ rfl)

/-- The kernel leaves the places of the nearest rows and the loss of those rows. -/
theorem kernel_leaves (m : (ℓ : Loc Cert.KernelIdeal.nD Cert.KernelIdeal.τ Cert.KernelIdeal.sig) → Buf (Elt Ideal) ℓ) (ρ : Dev Cert.KernelIdeal.nD → PrngReg)
    (h : ∀ c, AllReal (Kernel.arg0 m c) ∧ AllReal (Kernel.arg1 m c)) :
    θ_run Cert.KernelIdeal.defs (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v3) = placesOf (Kernel.arg0 m c) (Kernel.arg1 m c)
      ∧ r.2.mem ((c.tc : Thread Cert.KernelIdeal.nD Cert.KernelIdeal.τ).loc Cert.KernelIdeal.main_v4) = (fun _ => lossOf (Kernel.arg0 m c) (Kernel.arg1 m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) := by
  refine (θ_run Cert.KernelIdeal.defs _ _).mono (fun r hr c => ?_) (θ_run_and (Cert.KernelIdeal.Gen.run_main m ρ) (Cert.KernelIdeal.Gen.unchanged m ρ))
  obtain ⟨hr, ha⟩ := hr
  refine ⟨((hr c).2 Cert.KernelIdeal.main_v3 (Pipeline.mem_restRefs_of _ (by decide) (by decide))).trans (funext fun i => ?_),
    ((hr c).2 Cert.KernelIdeal.main_v4 (Pipeline.mem_restRefs_of _ (by decide) (by decide))).trans
      (funext fun i => Kernel.tail_loss_apply m c (h c).1 (h c).2 i), ha c⟩
  exact (congrArg (Pipeline.afterTail₀ Cert.KernelIdeal.cfgs (Cert.KernelIdeal.Gen.dats m) 0 (Cert.KernelIdeal.Gen.V0 m) [Cert.KernelIdeal.Gen.hostOps1] c
      Cert.KernelIdeal.main_v3 : (⟨2, ![16, 1024]⟩ : Shape).Idx → BitVec 32) (at_ix2 i)).trans
    (Kernel.tail_place_apply m c (h c).1 (h c).2 (i 0 : Fin 16) (i 1 : Fin 1024))

/-- Of finite arguments, the kernel and its reference leave the same places and the same loss. The mask leaves the first
    result out, and selects every element of the other two. -/
theorem kernel_reference : Cert.algebraic_KernelIdeal_ReferenceIdeal_on_found_pre_finite := fun m g m' g' hpre hag => by
  have h : ∀ c, AllReal (Kernel.arg0 m c) ∧ AllReal (Kernel.arg1 m c) := fun c => allReal_of_pre _ _ (hpre c)
  have none : ¬ (0#1 : BitVec 1) = 1#1 := by decide
  exact ⟨fun _ _ => (0 : EReal), fun c => placesOf (Kernel.arg0 m c) (Kernel.arg1 m c), fun c _ => lossOf (Kernel.arg0 m c) (Kernel.arg1 m c),
    (θ_run Cert.KernelIdeal.defs _ _).mono (fun _ hr c => ⟨fun _ hi => absurd hi none, fun i _ => congrFun (hr c).1 i, fun i _ => congrFun (hr c).2.1 i, (hr c).2.2⟩)
      (kernel_leaves m g h),
    (θ_run Cert.ReferenceIdeal.defs _ _).mono (fun _ hr c => ⟨fun _ hi => absurd hi none, fun i _ => congrFun (hr c).1 i, fun i _ => congrFun (hr c).2.1 i, (hr c).2.2⟩)
      (reference_leaves m' g' (fun c => Kernel.arg0 m c) (fun c => Kernel.arg1 m c) hag h)⟩

end Cert.Proof.Search

end
-- ==== Proof.lean ====
/-
  The certificate's claims, from the parts.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.SC.Claims
public import proofs.«01_k».proof.Proof.Search.Claims

@[expose] public section

noncomputable section

namespace Cert.Proof

open Idealize.ShloMosaic Idealize.SL.Sem

/-- The search's program ends with its arguments as they were and every semaphore at zero, at the bit level. -/
theorem frame_kernel : Cert.quiescent_Kernel := fun m ρ _ => Cert.Kernel.Gen.frame m ρ

/-- The same over the extended reals. -/
theorem frame_kernel_ideal : Cert.quiescent_KernelIdeal := fun m ρ _ => Cert.KernelIdeal.Gen.frame m ρ

/-- The one named constant is the word it rounds to. -/
theorem kernel_preserved : Cert.preserves_Kernel_KernelIdeal :=
  IdealRules.named_const.statement Cert.KernelIdeal.κ "scale" .f32 0x35833333#32 ((550292685 / 562949953421312 : ℝ) : EReal) rfl

/-- Every claim: of the search and its reference, then of the row gather and `jnp.take`. -/
theorem claim : Cert.Claim :=
  ⟨Cert.Kernel.Gen.facts, Cert.KernelIdeal.Gen.facts, Cert.ReferenceIdeal.Gen.facts, Cert.Rows.Gen.facts, Cert.RowsIdeal.Gen.facts,
    Cert.TakeIdeal.Gen.facts, Cert.Take.Gen.facts, Cert.Pre_finite.Gen.facts, Cert.Pre_in_range.Gen.facts, Cert.On_found.Gen.facts,
    frame_kernel, frame_kernel_ideal, Search.frame_kernel_pre, Search.frame_reference, Search.frame_reference_pre,
    SC.frame_rows, SC.frame_rows_ideal, SC.frame_take_ideal, SC.frame_take_ideal_pre, SC.frame_take,
    kernel_preserved, Search.kernel_reference, trivial, SC.rows_take_ideal, SC.rows_take⟩

end Cert.Proof

end
